-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S512x384 : Shape := ⟨2, ![512, 384]⟩
abbrev S512x256 : Shape := ⟨2, ![512, 256]⟩
abbrev S48 : Shape := ⟨1, ![48]⟩
abbrev S_ : Shape := ⟨0, ![]⟩
abbrev S512x128 : Shape := ⟨2, ![512, 128]⟩
abbrev S128x384 : Shape := ⟨2, ![128, 384]⟩
abbrev S1 : Shape := ⟨1, ![1]⟩
abbrev S128x256 : Shape := ⟨2, ![128, 256]⟩

abbrev nBuf : Space → Nat
  | .hbm => 3
  | .vmem => 27
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S1024x1024, .f32⟩
  | .local _ .vmem, ⟨0, _⟩ => ⟨S1024x128, .bf16⟩
  | .local _ .vmem, ⟨1, _⟩ => ⟨S128x1024, .bf16⟩
  | .local _ .vmem, ⟨2, _⟩ => ⟨S1024x1024, .f32⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v62 : BitVec 32 := Scalar.addi v2 c1_i32_27
  let c2_i32_34 : BitVec 32 := 2#32
  let c4_i32_21 : BitVec 32 := 4#32
  let c0_i32_22 : BitVec 32 := 0#32
  let v52 : BitVec 1 := Scalar.cmpi .eq c4_i32_21 c0_i32_22
  let c1_i32_23 : BitVec 32 := 1#32
  let v53 : BitVec 32 := Scalar.select v52 c1_i32_23 c4_i32_21
  let v54 : BitVec 32 := Scalar.remsi v2 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c2_i32_28 : BitVec 32 := 2#32
  let c0_i32_29 : BitVec 32 := 0#32
  let v63 : BitVec 1 := Scalar.cmpi .eq c2_i32_28 c0_i32_29
  let c1_i32_30 : BitVec 32 := 1#32
  let v64 : BitVec 32 := Scalar.select v63 c1_i32_30 c2_i32_28
  let v65 : BitVec 32 := Scalar.remsi v61 v64
  let c0_i32_32 : BitVec 32 := 0#32
  let v67 : BitVec 1 := Scalar.cmpi .slt v65 c0_i32_32
  let c0_i32_33 : BitVec 32 := 0#32
  let v68 : BitVec 1 := Scalar.cmpi .slt v64 c0_i32_33
  let v69 : BitVec 1 := Scalar.xori v67 v68
  let c0_i32_31 : BitVec 32 := 0#32
  let v66 : BitVec 1 := Scalar.cmpi .ne v65 c0_i32_31
  let v70 : BitVec 1 := Scalar.andi v69 v66
  let v71 : BitVec 32 := Scalar.addi v65 v64
  let v72 : BitVec 32 := Scalar.select v70 v71 v65
  let v73 : BitVec 32 := Scalar.muli c2_i32_34 v72
  let v74 : BitVec 32 := Scalar.subi v62 v73
  v74.toNat
def k0_dev2 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let c4_i32_36 : BitVec 32 := 4#32
  let c0_i32_37 : BitVec 32 := 0#32
  let v75 : BitVec 1 := Scalar.cmpi .eq c4_i32_36 c0_i32_37
  let c1_i32_38 : BitVec 32 := 1#32
  let v76 : BitVec 32 := Scalar.select v75 c1_i32_38 c4_i32_36
  let v77 : BitVec 32 := Scalar.remsi v2 v76
  let c0_i32_40 : BitVec 32 := 0#32
  let v79 : BitVec 1 := Scalar.cmpi .slt v77 c0_i32_40
  let c0_i32_41 : BitVec 32 := 0#32
  let v80 : BitVec 1 := Scalar.cmpi .slt v76 c0_i32_41
  let v81 : BitVec 1 := Scalar.xori v79 v80
  let c0_i32_39 : BitVec 32 := 0#32
  let v78 : BitVec 1 := Scalar.cmpi .ne v77 c0_i32_39
  let v82 : BitVec 1 := Scalar.andi v81 v78
  let v83 : BitVec 32 := Scalar.addi v77 v76
  let v84 : BitVec 32 := Scalar.select v82 v83 v77
  let v85 : BitVec 32 := Scalar.muli c2_i32_42 v84
  let v86 : BitVec 32 := Scalar.subi v2 v85
  let c3_i32 : BitVec 32 := 3#32
  let v87 : BitVec 32 := Scalar.addi v86 c3_i32
  v87.toNat
def k0_dev3 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v88 : BitVec 32 := Scalar.addi v2 c4_i32_44
  let c8_i32_45 : BitVec 32 := 8#32
  let c0_i32_46 : BitVec 32 := 0#32
  let v89 : BitVec 1 := Scalar.cmpi .eq c8_i32_45 c0_i32_46
  let c1_i32_47 : BitVec 32 := 1#32
  let v90 : BitVec 32 := Scalar.select v89 c1_i32_47 c8_i32_45
  let v91 : BitVec 32 := Scalar.remsi v88 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  v98.toNat
def k0_off1 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v100 : BitVec 32 := Scalar.subi c1_i32_53 v16
  let c512_i32_54 : BitVec 32 := 512#32
  let v101 : BitVec 32 := Scalar.muli v100 c512_i32_54
  let v108 : Index := Scalar.indexCast v101
  let c0 : Index := 0#32
  ![v108.toNat, 0]
def k0_dev4 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v128 : BitVec 32 := Scalar.addi v2 c1_i32_71
  let c2_i32_78 : BitVec 32 := 2#32
  let c4_i32_65 : BitVec 32 := 4#32
  let c0_i32_66 : BitVec 32 := 0#32
  let v118 : BitVec 1 := Scalar.cmpi .eq c4_i32_65 c0_i32_66
  let c1_i32_67 : BitVec 32 := 1#32
  let v119 : BitVec 32 := Scalar.select v118 c1_i32_67 c4_i32_65
  let v120 : BitVec 32 := Scalar.remsi v2 v119
  let c0_i32_69 : BitVec 32 := 0#32
  let v122 : BitVec 1 := Scalar.cmpi .slt v120 c0_i32_69
  let c0_i32_70 : BitVec 32 := 0#32
  let v123 : BitVec 1 := Scalar.cmpi .slt v119 c0_i32_70
  let v124 : BitVec 1 := Scalar.xori v122 v123
  let c0_i32_68 : BitVec 32 := 0#32
  let v121 : BitVec 1 := Scalar.cmpi .ne v120 c0_i32_68
  let v125 : BitVec 1 := Scalar.andi v124 v121
  let v126 : BitVec 32 := Scalar.addi v120 v119
  let v127 : BitVec 32 := Scalar.select v125 v126 v120
  let c2_i32_72 : BitVec 32 := 2#32
  let c0_i32_73 : BitVec 32 := 0#32
  let v129 : BitVec 1 := Scalar.cmpi .eq c2_i32_72 c0_i32_73
  let c1_i32_74 : BitVec 32 := 1#32
  let v130 : BitVec 32 := Scalar.select v129 c1_i32_74 c2_i32_72
  let v131 : BitVec 32 := Scalar.remsi v127 v130
  let c0_i32_76 : BitVec 32 := 0#32
  let v133 : BitVec 1 := Scalar.cmpi .slt v131 c0_i32_76
  let c0_i32_77 : BitVec 32 := 0#32
  let v134 : BitVec 1 := Scalar.cmpi .slt v130 c0_i32_77
  let v135 : BitVec 1 := Scalar.xori v133 v134
  let c0_i32_75 : BitVec 32 := 0#32
  let v132 : BitVec 1 := Scalar.cmpi .ne v131 c0_i32_75
  let v136 : BitVec 1 := Scalar.andi v135 v132
  let v137 : BitVec 32 := Scalar.addi v131 v130
  let v138 : BitVec 32 := Scalar.select v136 v137 v131
  let v139 : BitVec 32 := Scalar.muli c2_i32_78 v138
  let v140 : BitVec 32 := Scalar.subi v128 v139
  v140.toNat
def k0_dev5 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v157 : BitVec 32 := Scalar.addi v2 c1_i32_91
  let c2_i32_98 : BitVec 32 := 2#32
  let c4_i32_85 : BitVec 32 := 4#32
  let c0_i32_86 : BitVec 32 := 0#32
  let v147 : BitVec 1 := Scalar.cmpi .eq c4_i32_85 c0_i32_86
  let c1_i32_87 : BitVec 32 := 1#32
  let v148 : BitVec 32 := Scalar.select v147 c1_i32_87 c4_i32_85
  let v149 : BitVec 32 := Scalar.remsi v2 v148
  let c0_i32_89 : BitVec 32 := 0#32
  let v151 : BitVec 1 := Scalar.cmpi .slt v149 c0_i32_89
  let c0_i32_90 : BitVec 32 := 0#32
  let v152 : BitVec 1 := Scalar.cmpi .slt v148 c0_i32_90
  let v153 : BitVec 1 := Scalar.xori v151 v152
  let c0_i32_88 : BitVec 32 := 0#32
  let v150 : BitVec 1 := Scalar.cmpi .ne v149 c0_i32_88
  let v154 : BitVec 1 := Scalar.andi v153 v150
  let v155 : BitVec 32 := Scalar.addi v149 v148
  let v156 : BitVec 32 := Scalar.select v154 v155 v149
  let c2_i32_92 : BitVec 32 := 2#32
  let c0_i32_93 : BitVec 32 := 0#32
  let v158 : BitVec 1 := Scalar.cmpi .eq c2_i32_92 c0_i32_93
  let c1_i32_94 : BitVec 32 := 1#32
  let v159 : BitVec 32 := Scalar.select v158 c1_i32_94 c2_i32_92
  let v160 : BitVec 32 := Scalar.remsi v156 v159
  let c0_i32_96 : BitVec 32 := 0#32
  let v162 : BitVec 1 := Scalar.cmpi .slt v160 c0_i32_96
  let c0_i32_97 : BitVec 32 := 0#32
  let v163 : BitVec 1 := Scalar.cmpi .slt v159 c0_i32_97
  let v164 : BitVec 1 := Scalar.xori v162 v163
  let c0_i32_95 : BitVec 32 := 0#32
  let v161 : BitVec 1 := Scalar.cmpi .ne v160 c0_i32_95
  let v165 : BitVec 1 := Scalar.andi v164 v161
  let v166 : BitVec 32 := Scalar.addi v160 v159
  let v167 : BitVec 32 := Scalar.select v165 v166 v160
  let v168 : BitVec 32 := Scalar.muli c2_i32_98 v167
  let v169 : BitVec 32 := Scalar.subi v157 v168
  v169.toNat
def k0_dev6 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v186 : BitVec 32 := Scalar.addi v2 c1_i32_110
  let c2_i32_117 : BitVec 32 := 2#32
  let c4_i32_104 : BitVec 32 := 4#32
  let c0_i32_105 : BitVec 32 := 0#32
  let v176 : BitVec 1 := Scalar.cmpi .eq c4_i32_104 c0_i32_105
  let c1_i32_106 : BitVec 32 := 1#32
  let v177 : BitVec 32 := Scalar.select v176 c1_i32_106 c4_i32_104
  let v178 : BitVec 32 := Scalar.remsi v2 v177
  let c0_i32_108 : BitVec 32 := 0#32
  let v180 : BitVec 1 := Scalar.cmpi .slt v178 c0_i32_108
  let c0_i32_109 : BitVec 32 := 0#32
  let v181 : BitVec 1 := Scalar.cmpi .slt v177 c0_i32_109
  let v182 : BitVec 1 := Scalar.xori v180 v181
  let c0_i32_107 : BitVec 32 := 0#32
  let v179 : BitVec 1 := Scalar.cmpi .ne v178 c0_i32_107
  let v183 : BitVec 1 := Scalar.andi v182 v179
  let v184 : BitVec 32 := Scalar.addi v178 v177
  let v185 : BitVec 32 := Scalar.select v183 v184 v178
  let c2_i32_111 : BitVec 32 := 2#32
  let c0_i32_112 : BitVec 32 := 0#32
  let v187 : BitVec 1 := Scalar.cmpi .eq c2_i32_111 c0_i32_112
  let c1_i32_113 : BitVec 32 := 1#32
  let v188 : BitVec 32 := Scalar.select v187 c1_i32_113 c2_i32_111
  let v189 : BitVec 32 := Scalar.remsi v185 v188
  let c0_i32_115 : BitVec 32 := 0#32
  let v191 : BitVec 1 := Scalar.cmpi .slt v189 c0_i32_115
  let c0_i32_116 : BitVec 32 := 0#32
  let v192 : BitVec 1 := Scalar.cmpi .slt v188 c0_i32_116
  let v193 : BitVec 1 := Scalar.xori v191 v192
  let c0_i32_114 : BitVec 32 := 0#32
  let v190 : BitVec 1 := Scalar.cmpi .ne v189 c0_i32_114
  let v194 : BitVec 1 := Scalar.andi v193 v190
  let v195 : BitVec 32 := Scalar.addi v189 v188
  let v196 : BitVec 32 := Scalar.select v194 v195 v189
  let v197 : BitVec 32 := Scalar.muli c2_i32_117 v196
  let v198 : BitVec 32 := Scalar.subi v186 v197
  v198.toNat
def k0_dev7 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_129 : BitVec 32 := 1#32
  let v215 : BitVec 32 := Scalar.addi v2 c1_i32_129
  let c2_i32_136 : BitVec 32 := 2#32
  let c4_i32_123 : BitVec 32 := 4#32
  let c0_i32_124 : BitVec 32 := 0#32
  let v205 : BitVec 1 := Scalar.cmpi .eq c4_i32_123 c0_i32_124
  let c1_i32_125 : BitVec 32 := 1#32
  let v206 : BitVec 32 := Scalar.select v205 c1_i32_125 c4_i32_123
  let v207 : BitVec 32 := Scalar.remsi v2 v206
  let c0_i32_127 : BitVec 32 := 0#32
  let v209 : BitVec 1 := Scalar.cmpi .slt v207 c0_i32_127
  let c0_i32_128 : BitVec 32 := 0#32
  let v210 : BitVec 1 := Scalar.cmpi .slt v206 c0_i32_128
  let v211 : BitVec 1 := Scalar.xori v209 v210
  let c0_i32_126 : BitVec 32 := 0#32
  let v208 : BitVec 1 := Scalar.cmpi .ne v207 c0_i32_126
  let v212 : BitVec 1 := Scalar.andi v211 v208
  let v213 : BitVec 32 := Scalar.addi v207 v206
  let v214 : BitVec 32 := Scalar.select v212 v213 v207
  let c2_i32_130 : BitVec 32 := 2#32
  let c0_i32_131 : BitVec 32 := 0#32
  let v216 : BitVec 1 := Scalar.cmpi .eq c2_i32_130 c0_i32_131
  let c1_i32_132 : BitVec 32 := 1#32
  let v217 : BitVec 32 := Scalar.select v216 c1_i32_132 c2_i32_130
  let v218 : BitVec 32 := Scalar.remsi v214 v217
  let c0_i32_134 : BitVec 32 := 0#32
  let v220 : BitVec 1 := Scalar.cmpi .slt v218 c0_i32_134
  let c0_i32_135 : BitVec 32 := 0#32
  let v221 : BitVec 1 := Scalar.cmpi .slt v217 c0_i32_135
  let v222 : BitVec 1 := Scalar.xori v220 v221
  let c0_i32_133 : BitVec 32 := 0#32
  let v219 : BitVec 1 := Scalar.cmpi .ne v218 c0_i32_133
  let v223 : BitVec 1 := Scalar.andi v222 v219
  let v224 : BitVec 32 := Scalar.addi v218 v217
  let v225 : BitVec 32 := Scalar.select v223 v224 v218
  let v226 : BitVec 32 := Scalar.muli c2_i32_136 v225
  let v227 : BitVec 32 := Scalar.subi v215 v226
  v227.toNat
def k0_off2 (d0 : Dev nD) : Fin 2 → Nat :=
  let c1_i32_56 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let v103 : BitVec 32 := Scalar.subi c1_i32_56 v33
  let c512_i32_57 : BitVec 32 := 512#32
  let v104 : BitVec 32 := Scalar.muli v103 c512_i32_57
  let v234 : Index := Scalar.indexCast v104
  let c0_142 : Index := 0#32
  ![v234.toNat, 0]
def k0_dev8 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let c4_i32_147 : BitVec 32 := 4#32
  let c0_i32_148 : BitVec 32 := 0#32
  let v244 : BitVec 1 := Scalar.cmpi .eq c4_i32_147 c0_i32_148
  let c1_i32_149 : BitVec 32 := 1#32
  let v245 : BitVec 32 := Scalar.select v244 c1_i32_149 c4_i32_147
  let v246 : BitVec 32 := Scalar.remsi v2 v245
  let c0_i32_151 : BitVec 32 := 0#32
  let v248 : BitVec 1 := Scalar.cmpi .slt v246 c0_i32_151
  let c0_i32_152 : BitVec 32 := 0#32
  let v249 : BitVec 1 := Scalar.cmpi .slt v245 c0_i32_152
  let v250 : BitVec 1 := Scalar.xori v248 v249
  let c0_i32_150 : BitVec 32 := 0#32
  let v247 : BitVec 1 := Scalar.cmpi .ne v246 c0_i32_150
  let v251 : BitVec 1 := Scalar.andi v250 v247
  let v252 : BitVec 32 := Scalar.addi v246 v245
  let v253 : BitVec 32 := Scalar.select v251 v252 v246
  let v254 : BitVec 32 := Scalar.muli c2_i32_153 v253
  let v255 : BitVec 32 := Scalar.subi v2 v254
  let c3_i32_154 : BitVec 32 := 3#32
  let v256 : BitVec 32 := Scalar.addi v255 c3_i32_154
  v256.toNat
def k0_dev9 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_166 : BitVec 32 := 2#32
  let c4_i32_160 : BitVec 32 := 4#32
  let c0_i32_161 : BitVec 32 := 0#32
  let v263 : BitVec 1 := Scalar.cmpi .eq c4_i32_160 c0_i32_161
  let c1_i32_162 : BitVec 32 := 1#32
  let v264 : BitVec 32 := Scalar.select v263 c1_i32_162 c4_i32_160
  let v265 : BitVec 32 := Scalar.remsi v2 v264
  let c0_i32_164 : BitVec 32 := 0#32
  let v267 : BitVec 1 := Scalar.cmpi .slt v265 c0_i32_164
  let c0_i32_165 : BitVec 32 := 0#32
  let v268 : BitVec 1 := Scalar.cmpi .slt v264 c0_i32_165
  let v269 : BitVec 1 := Scalar.xori v267 v268
  let c0_i32_163 : BitVec 32 := 0#32
  let v266 : BitVec 1 := Scalar.cmpi .ne v265 c0_i32_163
  let v270 : BitVec 1 := Scalar.andi v269 v266
  let v271 : BitVec 32 := Scalar.addi v265 v264
  let v272 : BitVec 32 := Scalar.select v270 v271 v265
  let v273 : BitVec 32 := Scalar.muli c2_i32_166 v272
  let v274 : BitVec 32 := Scalar.subi v2 v273
  let c3_i32_167 : BitVec 32 := 3#32
  let v275 : BitVec 32 := Scalar.addi v274 c3_i32_167
  v275.toNat
def k0_dev10 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_179 : BitVec 32 := 2#32
  let c4_i32_173 : BitVec 32 := 4#32
  let c0_i32_174 : BitVec 32 := 0#32
  let v282 : BitVec 1 := Scalar.cmpi .eq c4_i32_173 c0_i32_174
  let c1_i32_175 : BitVec 32 := 1#32
  let v283 : BitVec 32 := Scalar.select v282 c1_i32_175 c4_i32_173
  let v284 : BitVec 32 := Scalar.remsi v2 v283
  let c0_i32_177 : BitVec 32 := 0#32
  let v286 : BitVec 1 := Scalar.cmpi .slt v284 c0_i32_177
  let c0_i32_178 : BitVec 32 := 0#32
  let v287 : BitVec 1 := Scalar.cmpi .slt v283 c0_i32_178
  let v288 : BitVec 1 := Scalar.xori v286 v287
  let c0_i32_176 : BitVec 32 := 0#32
  let v285 : BitVec 1 := Scalar.cmpi .ne v284 c0_i32_176
  let v289 : BitVec 1 := Scalar.andi v288 v285
  let v290 : BitVec 32 := Scalar.addi v284 v283
  let v291 : BitVec 32 := Scalar.select v289 v290 v284
  let v292 : BitVec 32 := Scalar.muli c2_i32_179 v291
  let v293 : BitVec 32 := Scalar.subi v2 v292
  let c3_i32_180 : BitVec 32 := 3#32
  let v294 : BitVec 32 := Scalar.addi v293 c3_i32_180
  v294.toNat
def k0_dev11 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_192 : BitVec 32 := 2#32
  let c4_i32_186 : BitVec 32 := 4#32
  let c0_i32_187 : BitVec 32 := 0#32
  let v301 : BitVec 1 := Scalar.cmpi .eq c4_i32_186 c0_i32_187
  let c1_i32_188 : BitVec 32 := 1#32
  let v302 : BitVec 32 := Scalar.select v301 c1_i32_188 c4_i32_186
  let v303 : BitVec 32 := Scalar.remsi v2 v302
  let c0_i32_190 : BitVec 32 := 0#32
  let v305 : BitVec 1 := Scalar.cmpi .slt v303 c0_i32_190
  let c0_i32_191 : BitVec 32 := 0#32
  let v306 : BitVec 1 := Scalar.cmpi .slt v302 c0_i32_191
  let v307 : BitVec 1 := Scalar.xori v305 v306
  let c0_i32_189 : BitVec 32 := 0#32
  let v304 : BitVec 1 := Scalar.cmpi .ne v303 c0_i32_189
  let v308 : BitVec 1 := Scalar.andi v307 v304
  let v309 : BitVec 32 := Scalar.addi v303 v302
  let v310 : BitVec 32 := Scalar.select v308 v309 v303
  let v311 : BitVec 32 := Scalar.muli c2_i32_192 v310
  let v312 : BitVec 32 := Scalar.subi v2 v311
  let c3_i32_193 : BitVec 32 := 3#32
  let v313 : BitVec 32 := Scalar.addi v312 c3_i32_193
  v313.toNat
def k0_off3 (d0 : Dev nD) : Fin 2 → Nat :=
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v106 : BitVec 32 := Scalar.subi c1_i32_59 v50
  let c512_i32_60 : BitVec 32 := 512#32
  let v107 : BitVec 32 := Scalar.muli v106 c512_i32_60
  let v320 : Index := Scalar.indexCast v107
  let c0_199 : Index := 0#32
  ![v320.toNat, 0]
def k0_dev12 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_204 : BitVec 32 := 4#32
  let v330 : BitVec 32 := Scalar.addi v2 c4_i32_204
  let c8_i32_205 : BitVec 32 := 8#32
  let c0_i32_206 : BitVec 32 := 0#32
  let v331 : BitVec 1 := Scalar.cmpi .eq c8_i32_205 c0_i32_206
  let c1_i32_207 : BitVec 32 := 1#32
  let v332 : BitVec 32 := Scalar.select v331 c1_i32_207 c8_i32_205
  let v333 : BitVec 32 := Scalar.remsi v330 v332
  let c0_i32_209 : BitVec 32 := 0#32
  let v335 : BitVec 1 := Scalar.cmpi .slt v333 c0_i32_209
  let c0_i32_210 : BitVec 32 := 0#32
  let v336 : BitVec 1 := Scalar.cmpi .slt v332 c0_i32_210
  let v337 : BitVec 1 := Scalar.xori v335 v336
  let c0_i32_208 : BitVec 32 := 0#32
  let v334 : BitVec 1 := Scalar.cmpi .ne v333 c0_i32_208
  let v338 : BitVec 1 := Scalar.andi v337 v334
  let v339 : BitVec 32 := Scalar.addi v333 v332
  let v340 : BitVec 32 := Scalar.select v338 v339 v333
  v340.toNat
def k0_dev13 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_216 : BitVec 32 := 4#32
  let v347 : BitVec 32 := Scalar.addi v2 c4_i32_216
  let c8_i32_217 : BitVec 32 := 8#32
  let c0_i32_218 : BitVec 32 := 0#32
  let v348 : BitVec 1 := Scalar.cmpi .eq c8_i32_217 c0_i32_218
  let c1_i32_219 : BitVec 32 := 1#32
  let v349 : BitVec 32 := Scalar.select v348 c1_i32_219 c8_i32_217
  let v350 : BitVec 32 := Scalar.remsi v347 v349
  let c0_i32_221 : BitVec 32 := 0#32
  let v352 : BitVec 1 := Scalar.cmpi .slt v350 c0_i32_221
  let c0_i32_222 : BitVec 32 := 0#32
  let v353 : BitVec 1 := Scalar.cmpi .slt v349 c0_i32_222
  let v354 : BitVec 1 := Scalar.xori v352 v353
  let c0_i32_220 : BitVec 32 := 0#32
  let v351 : BitVec 1 := Scalar.cmpi .ne v350 c0_i32_220
  let v355 : BitVec 1 := Scalar.andi v354 v351
  let v356 : BitVec 32 := Scalar.addi v350 v349
  let v357 : BitVec 32 := Scalar.select v355 v356 v350
  v357.toNat
def k0_dev14 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_228 : BitVec 32 := 4#32
  let v364 : BitVec 32 := Scalar.addi v2 c4_i32_228
  let c8_i32_229 : BitVec 32 := 8#32
  let c0_i32_230 : BitVec 32 := 0#32
  let v365 : BitVec 1 := Scalar.cmpi .eq c8_i32_229 c0_i32_230
  let c1_i32_231 : BitVec 32 := 1#32
  let v366 : BitVec 32 := Scalar.select v365 c1_i32_231 c8_i32_229
  let v367 : BitVec 32 := Scalar.remsi v364 v366
  let c0_i32_233 : BitVec 32 := 0#32
  let v369 : BitVec 1 := Scalar.cmpi .slt v367 c0_i32_233
  let c0_i32_234 : BitVec 32 := 0#32
  let v370 : BitVec 1 := Scalar.cmpi .slt v366 c0_i32_234
  let v371 : BitVec 1 := Scalar.xori v369 v370
  let c0_i32_232 : BitVec 32 := 0#32
  let v368 : BitVec 1 := Scalar.cmpi .ne v367 c0_i32_232
  let v372 : BitVec 1 := Scalar.andi v371 v368
  let v373 : BitVec 32 := Scalar.addi v367 v366
  let v374 : BitVec 32 := Scalar.select v372 v373 v367
  v374.toNat
def k0_dev15 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_240 : BitVec 32 := 4#32
  let v381 : BitVec 32 := Scalar.addi v2 c4_i32_240
  let c8_i32_241 : BitVec 32 := 8#32
  let c0_i32_242 : BitVec 32 := 0#32
  let v382 : BitVec 1 := Scalar.cmpi .eq c8_i32_241 c0_i32_242
  let c1_i32_243 : BitVec 32 := 1#32
  let v383 : BitVec 32 := Scalar.select v382 c1_i32_243 c8_i32_241
  let v384 : BitVec 32 := Scalar.remsi v381 v383
  let c0_i32_245 : BitVec 32 := 0#32
  let v386 : BitVec 1 := Scalar.cmpi .slt v384 c0_i32_245
  let c0_i32_246 : BitVec 32 := 0#32
  let v387 : BitVec 1 := Scalar.cmpi .slt v383 c0_i32_246
  let v388 : BitVec 1 := Scalar.xori v386 v387
  let c0_i32_244 : BitVec 32 := 0#32
  let v385 : BitVec 1 := Scalar.cmpi .ne v384 c0_i32_244
  let v389 : BitVec 1 := Scalar.andi v388 v385
  let v390 : BitVec 32 := Scalar.addi v384 v383
  let v391 : BitVec 32 := Scalar.select v389 v390 v384
  v391.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c512_i32 : BitVec 32 := 512#32
  let v99 : BitVec 32 := Scalar.muli v16 c512_i32
  let v398 : Index := Scalar.indexCast v99
  let c0_252 : Index := 0#32
  ![v398.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c512_i32 : BitVec 32 := 512#32
  let v99 : BitVec 32 := Scalar.muli v16 c512_i32
  let v404 : Index := Scalar.indexCast v99
  let c0_256 : Index := 0#32
  ![v404.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c512_i32_55 : BitVec 32 := 512#32
  let v102 : BitVec 32 := Scalar.muli v33 c512_i32_55
  let v406 : Index := Scalar.indexCast v102
  let c0_257 : Index := 0#32
  ![v406.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c512_i32_55 : BitVec 32 := 512#32
  let v102 : BitVec 32 := Scalar.muli v33 c512_i32_55
  let v412 : Index := Scalar.indexCast v102
  let c384_261 : Index := 384#32
  ![v412.toNat, 384]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c512_i32_58 : BitVec 32 := 512#32
  let v105 : BitVec 32 := Scalar.muli v50 c512_i32_58
  let v414 : Index := Scalar.indexCast v105
  let c0_262 : Index := 0#32
  ![v414.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c512_i32_58 : BitVec 32 := 512#32
  let v105 : BitVec 32 := Scalar.muli v50 c512_i32_58
  let v420 : Index := Scalar.indexCast v105
  let c768_266 : Index := 768#32
  ![v420.toNat, 768]
def k0_off10 (d0 : Dev nD) (c0_i32_267 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c512_i32 : BitVec 32 := 512#32
  let v99 : BitVec 32 := Scalar.muli v16 c512_i32
  let v422 : BitVec 32 := Scalar.addi v99 c0_i32_267
  let v427 : Index := Scalar.indexCast v422
  let c0_274 : Index := 0#32
  ![v427.toNat, 0]
def k0_dev16 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_285 : BitVec 32 := 2#32
  let c4_i32_279 : BitVec 32 := 4#32
  let c0_i32_280 : BitVec 32 := 0#32
  let v437 : BitVec 1 := Scalar.cmpi .eq c4_i32_279 c0_i32_280
  let c1_i32_281 : BitVec 32 := 1#32
  let v438 : BitVec 32 := Scalar.select v437 c1_i32_281 c4_i32_279
  let v439 : BitVec 32 := Scalar.remsi v2 v438
  let c0_i32_283 : BitVec 32 := 0#32
  let v441 : BitVec 1 := Scalar.cmpi .slt v439 c0_i32_283
  let c0_i32_284 : BitVec 32 := 0#32
  let v442 : BitVec 1 := Scalar.cmpi .slt v438 c0_i32_284
  let v443 : BitVec 1 := Scalar.xori v441 v442
  let c0_i32_282 : BitVec 32 := 0#32
  let v440 : BitVec 1 := Scalar.cmpi .ne v439 c0_i32_282
  let v444 : BitVec 1 := Scalar.andi v443 v440
  let v445 : BitVec 32 := Scalar.addi v439 v438
  let v446 : BitVec 32 := Scalar.select v444 v445 v439
  let v447 : BitVec 32 := Scalar.muli c2_i32_285 v446
  let v448 : BitVec 32 := Scalar.subi v2 v447
  let c3_i32_286 : BitVec 32 := 3#32
  let v449 : BitVec 32 := Scalar.addi v448 c3_i32_286
  v449.toNat
def k0_off11 (d0 : Dev nD) (c0_i32_294 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c512_i32_55 : BitVec 32 := 512#32
  let v102 : BitVec 32 := Scalar.muli v33 c512_i32_55
  let v458 : BitVec 32 := Scalar.addi v102 c0_i32_294
  let v463 : Index := Scalar.indexCast v458
  let c384_301 : Index := 384#32
  ![v463.toNat, 384]
def k0_dev17 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v473 : BitVec 32 := Scalar.addi v2 c4_i32_306
  let c8_i32_307 : BitVec 32 := 8#32
  let c0_i32_308 : BitVec 32 := 0#32
  let v474 : BitVec 1 := Scalar.cmpi .eq c8_i32_307 c0_i32_308
  let c1_i32_309 : BitVec 32 := 1#32
  let v475 : BitVec 32 := Scalar.select v474 c1_i32_309 c8_i32_307
  let v476 : BitVec 32 := Scalar.remsi v473 v475
  let c0_i32_311 : BitVec 32 := 0#32
  let v478 : BitVec 1 := Scalar.cmpi .slt v476 c0_i32_311
  let c0_i32_312 : BitVec 32 := 0#32
  let v479 : BitVec 1 := Scalar.cmpi .slt v475 c0_i32_312
  let v480 : BitVec 1 := Scalar.xori v478 v479
  let c0_i32_310 : BitVec 32 := 0#32
  let v477 : BitVec 1 := Scalar.cmpi .ne v476 c0_i32_310
  let v481 : BitVec 1 := Scalar.andi v480 v477
  let v482 : BitVec 32 := Scalar.addi v476 v475
  let v483 : BitVec 32 := Scalar.select v481 v482 v476
  v483.toNat
def k0_off12 (d0 : Dev nD) (c0_i32_319 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c512_i32_58 : BitVec 32 := 512#32
  let v105 : BitVec 32 := Scalar.muli v50 c512_i32_58
  let v492 : BitVec 32 := Scalar.addi v105 c0_i32_319
  let v497 : Index := Scalar.indexCast v492
  let c768_326 : Index := 768#32
  ![v497.toNat, 768]
def k0_dev18 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_337 : BitVec 32 := 1#32
  let v517 : BitVec 32 := Scalar.addi v2 c1_i32_337
  let c2_i32_344 : BitVec 32 := 2#32
  let c4_i32_331 : BitVec 32 := 4#32
  let c0_i32_332 : BitVec 32 := 0#32
  let v507 : BitVec 1 := Scalar.cmpi .eq c4_i32_331 c0_i32_332
  let c1_i32_333 : BitVec 32 := 1#32
  let v508 : BitVec 32 := Scalar.select v507 c1_i32_333 c4_i32_331
  let v509 : BitVec 32 := Scalar.remsi v2 v508
  let c0_i32_335 : BitVec 32 := 0#32
  let v511 : BitVec 1 := Scalar.cmpi .slt v509 c0_i32_335
  let c0_i32_336 : BitVec 32 := 0#32
  let v512 : BitVec 1 := Scalar.cmpi .slt v508 c0_i32_336
  let v513 : BitVec 1 := Scalar.xori v511 v512
  let c0_i32_334 : BitVec 32 := 0#32
  let v510 : BitVec 1 := Scalar.cmpi .ne v509 c0_i32_334
  let v514 : BitVec 1 := Scalar.andi v513 v510
  let v515 : BitVec 32 := Scalar.addi v509 v508
  let v516 : BitVec 32 := Scalar.select v514 v515 v509
  let c2_i32_338 : BitVec 32 := 2#32
  let c0_i32_339 : BitVec 32 := 0#32
  let v518 : BitVec 1 := Scalar.cmpi .eq c2_i32_338 c0_i32_339
  let c1_i32_340 : BitVec 32 := 1#32
  let v519 : BitVec 32 := Scalar.select v518 c1_i32_340 c2_i32_338
  let v520 : BitVec 32 := Scalar.remsi v516 v519
  let c0_i32_342 : BitVec 32 := 0#32
  let v522 : BitVec 1 := Scalar.cmpi .slt v520 c0_i32_342
  let c0_i32_343 : BitVec 32 := 0#32
  let v523 : BitVec 1 := Scalar.cmpi .slt v519 c0_i32_343
  let v524 : BitVec 1 := Scalar.xori v522 v523
  let c0_i32_341 : BitVec 32 := 0#32
  let v521 : BitVec 1 := Scalar.cmpi .ne v520 c0_i32_341
  let v525 : BitVec 1 := Scalar.andi v524 v521
  let v526 : BitVec 32 := Scalar.addi v520 v519
  let v527 : BitVec 32 := Scalar.select v525 v526 v520
  let v528 : BitVec 32 := Scalar.muli c2_i32_344 v527
  let v529 : BitVec 32 := Scalar.subi v517 v528
  v529.toNat
def k0_dev19 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_368 : BitVec 32 := 2#32
  let c4_i32_362 : BitVec 32 := 4#32
  let c0_i32_363 : BitVec 32 := 0#32
  let v553 : BitVec 1 := Scalar.cmpi .eq c4_i32_362 c0_i32_363
  let c1_i32_364 : BitVec 32 := 1#32
  let v554 : BitVec 32 := Scalar.select v553 c1_i32_364 c4_i32_362
  let v555 : BitVec 32 := Scalar.remsi v2 v554
  let c0_i32_366 : BitVec 32 := 0#32
  let v557 : BitVec 1 := Scalar.cmpi .slt v555 c0_i32_366
  let c0_i32_367 : BitVec 32 := 0#32
  let v558 : BitVec 1 := Scalar.cmpi .slt v554 c0_i32_367
  let v559 : BitVec 1 := Scalar.xori v557 v558
  let c0_i32_365 : BitVec 32 := 0#32
  let v556 : BitVec 1 := Scalar.cmpi .ne v555 c0_i32_365
  let v560 : BitVec 1 := Scalar.andi v559 v556
  let v561 : BitVec 32 := Scalar.addi v555 v554
  let v562 : BitVec 32 := Scalar.select v560 v561 v555
  let v563 : BitVec 32 := Scalar.muli c2_i32_368 v562
  let v564 : BitVec 32 := Scalar.subi v2 v563
  let c3_i32_369 : BitVec 32 := 3#32
  let v565 : BitVec 32 := Scalar.addi v564 c3_i32_369
  v565.toNat
def k0_dev20 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388 : BitVec 32 := 4#32
  let v589 : BitVec 32 := Scalar.addi v2 c4_i32_388
  let c8_i32_389 : BitVec 32 := 8#32
  let c0_i32_390 : BitVec 32 := 0#32
  let v590 : BitVec 1 := Scalar.cmpi .eq c8_i32_389 c0_i32_390
  let c1_i32_391 : BitVec 32 := 1#32
  let v591 : BitVec 32 := Scalar.select v590 c1_i32_391 c8_i32_389
  let v592 : BitVec 32 := Scalar.remsi v589 v591
  let c0_i32_393 : BitVec 32 := 0#32
  let v594 : BitVec 1 := Scalar.cmpi .slt v592 c0_i32_393
  let c0_i32_394 : BitVec 32 := 0#32
  let v595 : BitVec 1 := Scalar.cmpi .slt v591 c0_i32_394
  let v596 : BitVec 1 := Scalar.xori v594 v595
  let c0_i32_392 : BitVec 32 := 0#32
  let v593 : BitVec 1 := Scalar.cmpi .ne v592 c0_i32_392
  let v597 : BitVec 1 := Scalar.andi v596 v593
  let v598 : BitVec 32 := Scalar.addi v592 v591
  let v599 : BitVec 32 := Scalar.select v597 v598 v592
  v599.toNat
def k0_dev21 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_419 : BitVec 32 := 1#32
  let v633 : BitVec 32 := Scalar.addi v2 c1_i32_419
  let c2_i32_426 : BitVec 32 := 2#32
  let c4_i32_413 : BitVec 32 := 4#32
  let c0_i32_414 : BitVec 32 := 0#32
  let v623 : BitVec 1 := Scalar.cmpi .eq c4_i32_413 c0_i32_414
  let c1_i32_415 : BitVec 32 := 1#32
  let v624 : BitVec 32 := Scalar.select v623 c1_i32_415 c4_i32_413
  let v625 : BitVec 32 := Scalar.remsi v2 v624
  let c0_i32_417 : BitVec 32 := 0#32
  let v627 : BitVec 1 := Scalar.cmpi .slt v625 c0_i32_417
  let c0_i32_418 : BitVec 32 := 0#32
  let v628 : BitVec 1 := Scalar.cmpi .slt v624 c0_i32_418
  let v629 : BitVec 1 := Scalar.xori v627 v628
  let c0_i32_416 : BitVec 32 := 0#32
  let v626 : BitVec 1 := Scalar.cmpi .ne v625 c0_i32_416
  let v630 : BitVec 1 := Scalar.andi v629 v626
  let v631 : BitVec 32 := Scalar.addi v625 v624
  let v632 : BitVec 32 := Scalar.select v630 v631 v625
  let c2_i32_420 : BitVec 32 := 2#32
  let c0_i32_421 : BitVec 32 := 0#32
  let v634 : BitVec 1 := Scalar.cmpi .eq c2_i32_420 c0_i32_421
  let c1_i32_422 : BitVec 32 := 1#32
  let v635 : BitVec 32 := Scalar.select v634 c1_i32_422 c2_i32_420
  let v636 : BitVec 32 := Scalar.remsi v632 v635
  let c0_i32_424 : BitVec 32 := 0#32
  let v638 : BitVec 1 := Scalar.cmpi .slt v636 c0_i32_424
  let c0_i32_425 : BitVec 32 := 0#32
  let v639 : BitVec 1 := Scalar.cmpi .slt v635 c0_i32_425
  let v640 : BitVec 1 := Scalar.xori v638 v639
  let c0_i32_423 : BitVec 32 := 0#32
  let v637 : BitVec 1 := Scalar.cmpi .ne v636 c0_i32_423
  let v641 : BitVec 1 := Scalar.andi v640 v637
  let v642 : BitVec 32 := Scalar.addi v636 v635
  let v643 : BitVec 32 := Scalar.select v641 v642 v636
  let v644 : BitVec 32 := Scalar.muli c2_i32_426 v643
  let v645 : BitVec 32 := Scalar.subi v633 v644
  v645.toNat
def k0_dev22 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_450 : BitVec 32 := 2#32
  let c4_i32_444 : BitVec 32 := 4#32
  let c0_i32_445 : BitVec 32 := 0#32
  let v669 : BitVec 1 := Scalar.cmpi .eq c4_i32_444 c0_i32_445
  let c1_i32_446 : BitVec 32 := 1#32
  let v670 : BitVec 32 := Scalar.select v669 c1_i32_446 c4_i32_444
  let v671 : BitVec 32 := Scalar.remsi v2 v670
  let c0_i32_448 : BitVec 32 := 0#32
  let v673 : BitVec 1 := Scalar.cmpi .slt v671 c0_i32_448
  let c0_i32_449 : BitVec 32 := 0#32
  let v674 : BitVec 1 := Scalar.cmpi .slt v670 c0_i32_449
  let v675 : BitVec 1 := Scalar.xori v673 v674
  let c0_i32_447 : BitVec 32 := 0#32
  let v672 : BitVec 1 := Scalar.cmpi .ne v671 c0_i32_447
  let v676 : BitVec 1 := Scalar.andi v675 v672
  let v677 : BitVec 32 := Scalar.addi v671 v670
  let v678 : BitVec 32 := Scalar.select v676 v677 v671
  let v679 : BitVec 32 := Scalar.muli c2_i32_450 v678
  let v680 : BitVec 32 := Scalar.subi v2 v679
  let c3_i32_451 : BitVec 32 := 3#32
  let v681 : BitVec 32 := Scalar.addi v680 c3_i32_451
  v681.toNat
def k0_dev23 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_470 : BitVec 32 := 4#32
  let v705 : BitVec 32 := Scalar.addi v2 c4_i32_470
  let c8_i32_471 : BitVec 32 := 8#32
  let c0_i32_472 : BitVec 32 := 0#32
  let v706 : BitVec 1 := Scalar.cmpi .eq c8_i32_471 c0_i32_472
  let c1_i32_473 : BitVec 32 := 1#32
  let v707 : BitVec 32 := Scalar.select v706 c1_i32_473 c8_i32_471
  let v708 : BitVec 32 := Scalar.remsi v705 v707
  let c0_i32_475 : BitVec 32 := 0#32
  let v710 : BitVec 1 := Scalar.cmpi .slt v708 c0_i32_475
  let c0_i32_476 : BitVec 32 := 0#32
  let v711 : BitVec 1 := Scalar.cmpi .slt v707 c0_i32_476
  let v712 : BitVec 1 := Scalar.xori v710 v711
  let c0_i32_474 : BitVec 32 := 0#32
  let v709 : BitVec 1 := Scalar.cmpi .ne v708 c0_i32_474
  let v713 : BitVec 1 := Scalar.andi v712 v709
  let v714 : BitVec 32 := Scalar.addi v708 v707
  let v715 : BitVec 32 := Scalar.select v713 v714 v708
  v715.toNat
def k0_dev24 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v749 : BitVec 32 := Scalar.addi v2 c1_i32_501
  let c2_i32_508 : BitVec 32 := 2#32
  let c4_i32_495 : BitVec 32 := 4#32
  let c0_i32_496 : BitVec 32 := 0#32
  let v739 : BitVec 1 := Scalar.cmpi .eq c4_i32_495 c0_i32_496
  let c1_i32_497 : BitVec 32 := 1#32
  let v740 : BitVec 32 := Scalar.select v739 c1_i32_497 c4_i32_495
  let v741 : BitVec 32 := Scalar.remsi v2 v740
  let c0_i32_499 : BitVec 32 := 0#32
  let v743 : BitVec 1 := Scalar.cmpi .slt v741 c0_i32_499
  let c0_i32_500 : BitVec 32 := 0#32
  let v744 : BitVec 1 := Scalar.cmpi .slt v740 c0_i32_500
  let v745 : BitVec 1 := Scalar.xori v743 v744
  let c0_i32_498 : BitVec 32 := 0#32
  let v742 : BitVec 1 := Scalar.cmpi .ne v741 c0_i32_498
  let v746 : BitVec 1 := Scalar.andi v745 v742
  let v747 : BitVec 32 := Scalar.addi v741 v740
  let v748 : BitVec 32 := Scalar.select v746 v747 v741
  let c2_i32_502 : BitVec 32 := 2#32
  let c0_i32_503 : BitVec 32 := 0#32
  let v750 : BitVec 1 := Scalar.cmpi .eq c2_i32_502 c0_i32_503
  let c1_i32_504 : BitVec 32 := 1#32
  let v751 : BitVec 32 := Scalar.select v750 c1_i32_504 c2_i32_502
  let v752 : BitVec 32 := Scalar.remsi v748 v751
  let c0_i32_506 : BitVec 32 := 0#32
  let v754 : BitVec 1 := Scalar.cmpi .slt v752 c0_i32_506
  let c0_i32_507 : BitVec 32 := 0#32
  let v755 : BitVec 1 := Scalar.cmpi .slt v751 c0_i32_507
  let v756 : BitVec 1 := Scalar.xori v754 v755
  let c0_i32_505 : BitVec 32 := 0#32
  let v753 : BitVec 1 := Scalar.cmpi .ne v752 c0_i32_505
  let v757 : BitVec 1 := Scalar.andi v756 v753
  let v758 : BitVec 32 := Scalar.addi v752 v751
  let v759 : BitVec 32 := Scalar.select v757 v758 v752
  let v760 : BitVec 32 := Scalar.muli c2_i32_508 v759
  let v761 : BitVec 32 := Scalar.subi v749 v760
  v761.toNat
def k0_dev25 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_533 : BitVec 32 := 2#32
  let c4_i32_527 : BitVec 32 := 4#32
  let c0_i32_528 : BitVec 32 := 0#32
  let v785 : BitVec 1 := Scalar.cmpi .eq c4_i32_527 c0_i32_528
  let c1_i32_529 : BitVec 32 := 1#32
  let v786 : BitVec 32 := Scalar.select v785 c1_i32_529 c4_i32_527
  let v787 : BitVec 32 := Scalar.remsi v2 v786
  let c0_i32_531 : BitVec 32 := 0#32
  let v789 : BitVec 1 := Scalar.cmpi .slt v787 c0_i32_531
  let c0_i32_532 : BitVec 32 := 0#32
  let v790 : BitVec 1 := Scalar.cmpi .slt v786 c0_i32_532
  let v791 : BitVec 1 := Scalar.xori v789 v790
  let c0_i32_530 : BitVec 32 := 0#32
  let v788 : BitVec 1 := Scalar.cmpi .ne v787 c0_i32_530
  let v792 : BitVec 1 := Scalar.andi v791 v788
  let v793 : BitVec 32 := Scalar.addi v787 v786
  let v794 : BitVec 32 := Scalar.select v792 v793 v787
  let v795 : BitVec 32 := Scalar.muli c2_i32_533 v794
  let v796 : BitVec 32 := Scalar.subi v2 v795
  let c3_i32_534 : BitVec 32 := 3#32
  let v797 : BitVec 32 := Scalar.addi v796 c3_i32_534
  v797.toNat
def k0_dev26 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v821 : BitVec 32 := Scalar.addi v2 c4_i32_553
  let c8_i32_554 : BitVec 32 := 8#32
  let c0_i32_555 : BitVec 32 := 0#32
  let v822 : BitVec 1 := Scalar.cmpi .eq c8_i32_554 c0_i32_555
  let c1_i32_556 : BitVec 32 := 1#32
  let v823 : BitVec 32 := Scalar.select v822 c1_i32_556 c8_i32_554
  let v824 : BitVec 32 := Scalar.remsi v821 v823
  let c0_i32_558 : BitVec 32 := 0#32
  let v826 : BitVec 1 := Scalar.cmpi .slt v824 c0_i32_558
  let c0_i32_559 : BitVec 32 := 0#32
  let v827 : BitVec 1 := Scalar.cmpi .slt v823 c0_i32_559
  let v828 : BitVec 1 := Scalar.xori v826 v827
  let c0_i32_557 : BitVec 32 := 0#32
  let v825 : BitVec 1 := Scalar.cmpi .ne v824 c0_i32_557
  let v829 : BitVec 1 := Scalar.andi v828 v825
  let v830 : BitVec 32 := Scalar.addi v824 v823
  let v831 : BitVec 32 := Scalar.select v829 v830 v824
  v831.toNat
def k0_dev27 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_584 : BitVec 32 := 1#32
  let v865 : BitVec 32 := Scalar.addi v2 c1_i32_584
  let c2_i32_591 : BitVec 32 := 2#32
  let c4_i32_578 : BitVec 32 := 4#32
  let c0_i32_579 : BitVec 32 := 0#32
  let v855 : BitVec 1 := Scalar.cmpi .eq c4_i32_578 c0_i32_579
  let c1_i32_580 : BitVec 32 := 1#32
  let v856 : BitVec 32 := Scalar.select v855 c1_i32_580 c4_i32_578
  let v857 : BitVec 32 := Scalar.remsi v2 v856
  let c0_i32_582 : BitVec 32 := 0#32
  let v859 : BitVec 1 := Scalar.cmpi .slt v857 c0_i32_582
  let c0_i32_583 : BitVec 32 := 0#32
  let v860 : BitVec 1 := Scalar.cmpi .slt v856 c0_i32_583
  let v861 : BitVec 1 := Scalar.xori v859 v860
  let c0_i32_581 : BitVec 32 := 0#32
  let v858 : BitVec 1 := Scalar.cmpi .ne v857 c0_i32_581
  let v862 : BitVec 1 := Scalar.andi v861 v858
  let v863 : BitVec 32 := Scalar.addi v857 v856
  let v864 : BitVec 32 := Scalar.select v862 v863 v857
  let c2_i32_585 : BitVec 32 := 2#32
  let c0_i32_586 : BitVec 32 := 0#32
  let v866 : BitVec 1 := Scalar.cmpi .eq c2_i32_585 c0_i32_586
  let c1_i32_587 : BitVec 32 := 1#32
  let v867 : BitVec 32 := Scalar.select v866 c1_i32_587 c2_i32_585
  let v868 : BitVec 32 := Scalar.remsi v864 v867
  let c0_i32_589 : BitVec 32 := 0#32
  let v870 : BitVec 1 := Scalar.cmpi .slt v868 c0_i32_589
  let c0_i32_590 : BitVec 32 := 0#32
  let v871 : BitVec 1 := Scalar.cmpi .slt v867 c0_i32_590
  let v872 : BitVec 1 := Scalar.xori v870 v871
  let c0_i32_588 : BitVec 32 := 0#32
  let v869 : BitVec 1 := Scalar.cmpi .ne v868 c0_i32_588
  let v873 : BitVec 1 := Scalar.andi v872 v869
  let v874 : BitVec 32 := Scalar.addi v868 v867
  let v875 : BitVec 32 := Scalar.select v873 v874 v868
  let v876 : BitVec 32 := Scalar.muli c2_i32_591 v875
  let v877 : BitVec 32 := Scalar.subi v865 v876
  v877.toNat
def k0_dev28 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_610 : BitVec 32 := 4#32
  let v901 : BitVec 32 := Scalar.addi v2 c4_i32_610
  let c8_i32_611 : BitVec 32 := 8#32
  let c0_i32_612 : BitVec 32 := 0#32
  let v902 : BitVec 1 := Scalar.cmpi .eq c8_i32_611 c0_i32_612
  let c1_i32_613 : BitVec 32 := 1#32
  let v903 : BitVec 32 := Scalar.select v902 c1_i32_613 c8_i32_611
  let v904 : BitVec 32 := Scalar.remsi v901 v903
  let c0_i32_615 : BitVec 32 := 0#32
  let v906 : BitVec 1 := Scalar.cmpi .slt v904 c0_i32_615
  let c0_i32_616 : BitVec 32 := 0#32
  let v907 : BitVec 1 := Scalar.cmpi .slt v903 c0_i32_616
  let v908 : BitVec 1 := Scalar.xori v906 v907
  let c0_i32_614 : BitVec 32 := 0#32
  let v905 : BitVec 1 := Scalar.cmpi .ne v904 c0_i32_614
  let v909 : BitVec 1 := Scalar.andi v908 v905
  let v910 : BitVec 32 := Scalar.addi v904 v903
  let v911 : BitVec 32 := Scalar.select v909 v910 v904
  v911.toNat
def k0_dev29 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_642 : BitVec 32 := 1#32
  let v945 : BitVec 32 := Scalar.addi v2 c1_i32_642
  let c2_i32_649 : BitVec 32 := 2#32
  let c4_i32_636 : BitVec 32 := 4#32
  let c0_i32_637 : BitVec 32 := 0#32
  let v935 : BitVec 1 := Scalar.cmpi .eq c4_i32_636 c0_i32_637
  let c1_i32_638 : BitVec 32 := 1#32
  let v936 : BitVec 32 := Scalar.select v935 c1_i32_638 c4_i32_636
  let v937 : BitVec 32 := Scalar.remsi v2 v936
  let c0_i32_640 : BitVec 32 := 0#32
  let v939 : BitVec 1 := Scalar.cmpi .slt v937 c0_i32_640
  let c0_i32_641 : BitVec 32 := 0#32
  let v940 : BitVec 1 := Scalar.cmpi .slt v936 c0_i32_641
  let v941 : BitVec 1 := Scalar.xori v939 v940
  let c0_i32_639 : BitVec 32 := 0#32
  let v938 : BitVec 1 := Scalar.cmpi .ne v937 c0_i32_639
  let v942 : BitVec 1 := Scalar.andi v941 v938
  let v943 : BitVec 32 := Scalar.addi v937 v936
  let v944 : BitVec 32 := Scalar.select v942 v943 v937
  let c2_i32_643 : BitVec 32 := 2#32
  let c0_i32_644 : BitVec 32 := 0#32
  let v946 : BitVec 1 := Scalar.cmpi .eq c2_i32_643 c0_i32_644
  let c1_i32_645 : BitVec 32 := 1#32
  let v947 : BitVec 32 := Scalar.select v946 c1_i32_645 c2_i32_643
  let v948 : BitVec 32 := Scalar.remsi v944 v947
  let c0_i32_647 : BitVec 32 := 0#32
  let v950 : BitVec 1 := Scalar.cmpi .slt v948 c0_i32_647
  let c0_i32_648 : BitVec 32 := 0#32
  let v951 : BitVec 1 := Scalar.cmpi .slt v947 c0_i32_648
  let v952 : BitVec 1 := Scalar.xori v950 v951
  let c0_i32_646 : BitVec 32 := 0#32
  let v949 : BitVec 1 := Scalar.cmpi .ne v948 c0_i32_646
  let v953 : BitVec 1 := Scalar.andi v952 v949
  let v954 : BitVec 32 := Scalar.addi v948 v947
  let v955 : BitVec 32 := Scalar.select v953 v954 v948
  let v956 : BitVec 32 := Scalar.muli c2_i32_649 v955
  let v957 : BitVec 32 := Scalar.subi v945 v956
  v957.toNat
def k0_dev30 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_674 : BitVec 32 := 2#32
  let c4_i32_668 : BitVec 32 := 4#32
  let c0_i32_669 : BitVec 32 := 0#32
  let v981 : BitVec 1 := Scalar.cmpi .eq c4_i32_668 c0_i32_669
  let c1_i32_670 : BitVec 32 := 1#32
  let v982 : BitVec 32 := Scalar.select v981 c1_i32_670 c4_i32_668
  let v983 : BitVec 32 := Scalar.remsi v2 v982
  let c0_i32_672 : BitVec 32 := 0#32
  let v985 : BitVec 1 := Scalar.cmpi .slt v983 c0_i32_672
  let c0_i32_673 : BitVec 32 := 0#32
  let v986 : BitVec 1 := Scalar.cmpi .slt v982 c0_i32_673
  let v987 : BitVec 1 := Scalar.xori v985 v986
  let c0_i32_671 : BitVec 32 := 0#32
  let v984 : BitVec 1 := Scalar.cmpi .ne v983 c0_i32_671
  let v988 : BitVec 1 := Scalar.andi v987 v984
  let v989 : BitVec 32 := Scalar.addi v983 v982
  let v990 : BitVec 32 := Scalar.select v988 v989 v983
  let v991 : BitVec 32 := Scalar.muli c2_i32_674 v990
  let v992 : BitVec 32 := Scalar.subi v2 v991
  let c3_i32_675 : BitVec 32 := 3#32
  let v993 : BitVec 32 := Scalar.addi v992 c3_i32_675
  v993.toNat
def k0_dev31 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_694 : BitVec 32 := 4#32
  let v1017 : BitVec 32 := Scalar.addi v2 c4_i32_694
  let c8_i32_695 : BitVec 32 := 8#32
  let c0_i32_696 : BitVec 32 := 0#32
  let v1018 : BitVec 1 := Scalar.cmpi .eq c8_i32_695 c0_i32_696
  let c1_i32_697 : BitVec 32 := 1#32
  let v1019 : BitVec 32 := Scalar.select v1018 c1_i32_697 c8_i32_695
  let v1020 : BitVec 32 := Scalar.remsi v1017 v1019
  let c0_i32_699 : BitVec 32 := 0#32
  let v1022 : BitVec 1 := Scalar.cmpi .slt v1020 c0_i32_699
  let c0_i32_700 : BitVec 32 := 0#32
  let v1023 : BitVec 1 := Scalar.cmpi .slt v1019 c0_i32_700
  let v1024 : BitVec 1 := Scalar.xori v1022 v1023
  let c0_i32_698 : BitVec 32 := 0#32
  let v1021 : BitVec 1 := Scalar.cmpi .ne v1020 c0_i32_698
  let v1025 : BitVec 1 := Scalar.andi v1024 v1021
  let v1026 : BitVec 32 := Scalar.addi v1020 v1019
  let v1027 : BitVec 32 := Scalar.select v1025 v1026 v1020
  v1027.toNat
def k0_dev32 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_725 : BitVec 32 := 1#32
  let v1061 : BitVec 32 := Scalar.addi v2 c1_i32_725
  let c2_i32_732 : BitVec 32 := 2#32
  let c4_i32_719 : BitVec 32 := 4#32
  let c0_i32_720 : BitVec 32 := 0#32
  let v1051 : BitVec 1 := Scalar.cmpi .eq c4_i32_719 c0_i32_720
  let c1_i32_721 : BitVec 32 := 1#32
  let v1052 : BitVec 32 := Scalar.select v1051 c1_i32_721 c4_i32_719
  let v1053 : BitVec 32 := Scalar.remsi v2 v1052
  let c0_i32_723 : BitVec 32 := 0#32
  let v1055 : BitVec 1 := Scalar.cmpi .slt v1053 c0_i32_723
  let c0_i32_724 : BitVec 32 := 0#32
  let v1056 : BitVec 1 := Scalar.cmpi .slt v1052 c0_i32_724
  let v1057 : BitVec 1 := Scalar.xori v1055 v1056
  let c0_i32_722 : BitVec 32 := 0#32
  let v1054 : BitVec 1 := Scalar.cmpi .ne v1053 c0_i32_722
  let v1058 : BitVec 1 := Scalar.andi v1057 v1054
  let v1059 : BitVec 32 := Scalar.addi v1053 v1052
  let v1060 : BitVec 32 := Scalar.select v1058 v1059 v1053
  let c2_i32_726 : BitVec 32 := 2#32
  let c0_i32_727 : BitVec 32 := 0#32
  let v1062 : BitVec 1 := Scalar.cmpi .eq c2_i32_726 c0_i32_727
  let c1_i32_728 : BitVec 32 := 1#32
  let v1063 : BitVec 32 := Scalar.select v1062 c1_i32_728 c2_i32_726
  let v1064 : BitVec 32 := Scalar.remsi v1060 v1063
  let c0_i32_730 : BitVec 32 := 0#32
  let v1066 : BitVec 1 := Scalar.cmpi .slt v1064 c0_i32_730
  let c0_i32_731 : BitVec 32 := 0#32
  let v1067 : BitVec 1 := Scalar.cmpi .slt v1063 c0_i32_731
  let v1068 : BitVec 1 := Scalar.xori v1066 v1067
  let c0_i32_729 : BitVec 32 := 0#32
  let v1065 : BitVec 1 := Scalar.cmpi .ne v1064 c0_i32_729
  let v1069 : BitVec 1 := Scalar.andi v1068 v1065
  let v1070 : BitVec 32 := Scalar.addi v1064 v1063
  let v1071 : BitVec 32 := Scalar.select v1069 v1070 v1064
  let v1072 : BitVec 32 := Scalar.muli c2_i32_732 v1071
  let v1073 : BitVec 32 := Scalar.subi v1061 v1072
  v1073.toNat
def k0_dev33 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_757 : BitVec 32 := 2#32
  let c4_i32_751 : BitVec 32 := 4#32
  let c0_i32_752 : BitVec 32 := 0#32
  let v1097 : BitVec 1 := Scalar.cmpi .eq c4_i32_751 c0_i32_752
  let c1_i32_753 : BitVec 32 := 1#32
  let v1098 : BitVec 32 := Scalar.select v1097 c1_i32_753 c4_i32_751
  let v1099 : BitVec 32 := Scalar.remsi v2 v1098
  let c0_i32_755 : BitVec 32 := 0#32
  let v1101 : BitVec 1 := Scalar.cmpi .slt v1099 c0_i32_755
  let c0_i32_756 : BitVec 32 := 0#32
  let v1102 : BitVec 1 := Scalar.cmpi .slt v1098 c0_i32_756
  let v1103 : BitVec 1 := Scalar.xori v1101 v1102
  let c0_i32_754 : BitVec 32 := 0#32
  let v1100 : BitVec 1 := Scalar.cmpi .ne v1099 c0_i32_754
  let v1104 : BitVec 1 := Scalar.andi v1103 v1100
  let v1105 : BitVec 32 := Scalar.addi v1099 v1098
  let v1106 : BitVec 32 := Scalar.select v1104 v1105 v1099
  let v1107 : BitVec 32 := Scalar.muli c2_i32_757 v1106
  let v1108 : BitVec 32 := Scalar.subi v2 v1107
  let c3_i32_758 : BitVec 32 := 3#32
  let v1109 : BitVec 32 := Scalar.addi v1108 c3_i32_758
  v1109.toNat
def k0_dev34 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_777 : BitVec 32 := 4#32
  let v1133 : BitVec 32 := Scalar.addi v2 c4_i32_777
  let c8_i32_778 : BitVec 32 := 8#32
  let c0_i32_779 : BitVec 32 := 0#32
  let v1134 : BitVec 1 := Scalar.cmpi .eq c8_i32_778 c0_i32_779
  let c1_i32_780 : BitVec 32 := 1#32
  let v1135 : BitVec 32 := Scalar.select v1134 c1_i32_780 c8_i32_778
  let v1136 : BitVec 32 := Scalar.remsi v1133 v1135
  let c0_i32_782 : BitVec 32 := 0#32
  let v1138 : BitVec 1 := Scalar.cmpi .slt v1136 c0_i32_782
  let c0_i32_783 : BitVec 32 := 0#32
  let v1139 : BitVec 1 := Scalar.cmpi .slt v1135 c0_i32_783
  let v1140 : BitVec 1 := Scalar.xori v1138 v1139
  let c0_i32_781 : BitVec 32 := 0#32
  let v1137 : BitVec 1 := Scalar.cmpi .ne v1136 c0_i32_781
  let v1141 : BitVec 1 := Scalar.andi v1140 v1137
  let v1142 : BitVec 32 := Scalar.addi v1136 v1135
  let v1143 : BitVec 32 := Scalar.select v1141 v1142 v1136
  v1143.toNat
def k0_dev35 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_808 : BitVec 32 := 1#32
  let v1177 : BitVec 32 := Scalar.addi v2 c1_i32_808
  let c2_i32_815 : BitVec 32 := 2#32
  let c4_i32_802 : BitVec 32 := 4#32
  let c0_i32_803 : BitVec 32 := 0#32
  let v1167 : BitVec 1 := Scalar.cmpi .eq c4_i32_802 c0_i32_803
  let c1_i32_804 : BitVec 32 := 1#32
  let v1168 : BitVec 32 := Scalar.select v1167 c1_i32_804 c4_i32_802
  let v1169 : BitVec 32 := Scalar.remsi v2 v1168
  let c0_i32_806 : BitVec 32 := 0#32
  let v1171 : BitVec 1 := Scalar.cmpi .slt v1169 c0_i32_806
  let c0_i32_807 : BitVec 32 := 0#32
  let v1172 : BitVec 1 := Scalar.cmpi .slt v1168 c0_i32_807
  let v1173 : BitVec 1 := Scalar.xori v1171 v1172
  let c0_i32_805 : BitVec 32 := 0#32
  let v1170 : BitVec 1 := Scalar.cmpi .ne v1169 c0_i32_805
  let v1174 : BitVec 1 := Scalar.andi v1173 v1170
  let v1175 : BitVec 32 := Scalar.addi v1169 v1168
  let v1176 : BitVec 32 := Scalar.select v1174 v1175 v1169
  let c2_i32_809 : BitVec 32 := 2#32
  let c0_i32_810 : BitVec 32 := 0#32
  let v1178 : BitVec 1 := Scalar.cmpi .eq c2_i32_809 c0_i32_810
  let c1_i32_811 : BitVec 32 := 1#32
  let v1179 : BitVec 32 := Scalar.select v1178 c1_i32_811 c2_i32_809
  let v1180 : BitVec 32 := Scalar.remsi v1176 v1179
  let c0_i32_813 : BitVec 32 := 0#32
  let v1182 : BitVec 1 := Scalar.cmpi .slt v1180 c0_i32_813
  let c0_i32_814 : BitVec 32 := 0#32
  let v1183 : BitVec 1 := Scalar.cmpi .slt v1179 c0_i32_814
  let v1184 : BitVec 1 := Scalar.xori v1182 v1183
  let c0_i32_812 : BitVec 32 := 0#32
  let v1181 : BitVec 1 := Scalar.cmpi .ne v1180 c0_i32_812
  let v1185 : BitVec 1 := Scalar.andi v1184 v1181
  let v1186 : BitVec 32 := Scalar.addi v1180 v1179
  let v1187 : BitVec 32 := Scalar.select v1185 v1186 v1180
  let v1188 : BitVec 32 := Scalar.muli c2_i32_815 v1187
  let v1189 : BitVec 32 := Scalar.subi v1177 v1188
  v1189.toNat
def k0_dev36 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_840 : BitVec 32 := 2#32
  let c4_i32_834 : BitVec 32 := 4#32
  let c0_i32_835 : BitVec 32 := 0#32
  let v1213 : BitVec 1 := Scalar.cmpi .eq c4_i32_834 c0_i32_835
  let c1_i32_836 : BitVec 32 := 1#32
  let v1214 : BitVec 32 := Scalar.select v1213 c1_i32_836 c4_i32_834
  let v1215 : BitVec 32 := Scalar.remsi v2 v1214
  let c0_i32_838 : BitVec 32 := 0#32
  let v1217 : BitVec 1 := Scalar.cmpi .slt v1215 c0_i32_838
  let c0_i32_839 : BitVec 32 := 0#32
  let v1218 : BitVec 1 := Scalar.cmpi .slt v1214 c0_i32_839
  let v1219 : BitVec 1 := Scalar.xori v1217 v1218
  let c0_i32_837 : BitVec 32 := 0#32
  let v1216 : BitVec 1 := Scalar.cmpi .ne v1215 c0_i32_837
  let v1220 : BitVec 1 := Scalar.andi v1219 v1216
  let v1221 : BitVec 32 := Scalar.addi v1215 v1214
  let v1222 : BitVec 32 := Scalar.select v1220 v1221 v1215
  let v1223 : BitVec 32 := Scalar.muli c2_i32_840 v1222
  let v1224 : BitVec 32 := Scalar.subi v2 v1223
  let c3_i32_841 : BitVec 32 := 3#32
  let v1225 : BitVec 32 := Scalar.addi v1224 c3_i32_841
  v1225.toNat
def k0_dev37 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_860 : BitVec 32 := 4#32
  let v1249 : BitVec 32 := Scalar.addi v2 c4_i32_860
  let c8_i32_861 : BitVec 32 := 8#32
  let c0_i32_862 : BitVec 32 := 0#32
  let v1250 : BitVec 1 := Scalar.cmpi .eq c8_i32_861 c0_i32_862
  let c1_i32_863 : BitVec 32 := 1#32
  let v1251 : BitVec 32 := Scalar.select v1250 c1_i32_863 c8_i32_861
  let v1252 : BitVec 32 := Scalar.remsi v1249 v1251
  let c0_i32_865 : BitVec 32 := 0#32
  let v1254 : BitVec 1 := Scalar.cmpi .slt v1252 c0_i32_865
  let c0_i32_866 : BitVec 32 := 0#32
  let v1255 : BitVec 1 := Scalar.cmpi .slt v1251 c0_i32_866
  let v1256 : BitVec 1 := Scalar.xori v1254 v1255
  let c0_i32_864 : BitVec 32 := 0#32
  let v1253 : BitVec 1 := Scalar.cmpi .ne v1252 c0_i32_864
  let v1257 : BitVec 1 := Scalar.andi v1256 v1253
  let v1258 : BitVec 32 := Scalar.addi v1252 v1251
  let v1259 : BitVec 32 := Scalar.select v1257 v1258 v1252
  v1259.toNat
def k0_dev38 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_891 : BitVec 32 := 1#32
  let v1293 : BitVec 32 := Scalar.addi v2 c1_i32_891
  let c2_i32_898 : BitVec 32 := 2#32
  let c4_i32_885 : BitVec 32 := 4#32
  let c0_i32_886 : BitVec 32 := 0#32
  let v1283 : BitVec 1 := Scalar.cmpi .eq c4_i32_885 c0_i32_886
  let c1_i32_887 : BitVec 32 := 1#32
  let v1284 : BitVec 32 := Scalar.select v1283 c1_i32_887 c4_i32_885
  let v1285 : BitVec 32 := Scalar.remsi v2 v1284
  let c0_i32_889 : BitVec 32 := 0#32
  let v1287 : BitVec 1 := Scalar.cmpi .slt v1285 c0_i32_889
  let c0_i32_890 : BitVec 32 := 0#32
  let v1288 : BitVec 1 := Scalar.cmpi .slt v1284 c0_i32_890
  let v1289 : BitVec 1 := Scalar.xori v1287 v1288
  let c0_i32_888 : BitVec 32 := 0#32
  let v1286 : BitVec 1 := Scalar.cmpi .ne v1285 c0_i32_888
  let v1290 : BitVec 1 := Scalar.andi v1289 v1286
  let v1291 : BitVec 32 := Scalar.addi v1285 v1284
  let v1292 : BitVec 32 := Scalar.select v1290 v1291 v1285
  let c2_i32_892 : BitVec 32 := 2#32
  let c0_i32_893 : BitVec 32 := 0#32
  let v1294 : BitVec 1 := Scalar.cmpi .eq c2_i32_892 c0_i32_893
  let c1_i32_894 : BitVec 32 := 1#32
  let v1295 : BitVec 32 := Scalar.select v1294 c1_i32_894 c2_i32_892
  let v1296 : BitVec 32 := Scalar.remsi v1292 v1295
  let c0_i32_896 : BitVec 32 := 0#32
  let v1298 : BitVec 1 := Scalar.cmpi .slt v1296 c0_i32_896
  let c0_i32_897 : BitVec 32 := 0#32
  let v1299 : BitVec 1 := Scalar.cmpi .slt v1295 c0_i32_897
  let v1300 : BitVec 1 := Scalar.xori v1298 v1299
  let c0_i32_895 : BitVec 32 := 0#32
  let v1297 : BitVec 1 := Scalar.cmpi .ne v1296 c0_i32_895
  let v1301 : BitVec 1 := Scalar.andi v1300 v1297
  let v1302 : BitVec 32 := Scalar.addi v1296 v1295
  let v1303 : BitVec 32 := Scalar.select v1301 v1302 v1296
  let v1304 : BitVec 32 := Scalar.muli c2_i32_898 v1303
  let v1305 : BitVec 32 := Scalar.subi v1293 v1304
  v1305.toNat
def k0_dev39 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_923 : BitVec 32 := 2#32
  let c4_i32_917 : BitVec 32 := 4#32
  let c0_i32_918 : BitVec 32 := 0#32
  let v1329 : BitVec 1 := Scalar.cmpi .eq c4_i32_917 c0_i32_918
  let c1_i32_919 : BitVec 32 := 1#32
  let v1330 : BitVec 32 := Scalar.select v1329 c1_i32_919 c4_i32_917
  let v1331 : BitVec 32 := Scalar.remsi v2 v1330
  let c0_i32_921 : BitVec 32 := 0#32
  let v1333 : BitVec 1 := Scalar.cmpi .slt v1331 c0_i32_921
  let c0_i32_922 : BitVec 32 := 0#32
  let v1334 : BitVec 1 := Scalar.cmpi .slt v1330 c0_i32_922
  let v1335 : BitVec 1 := Scalar.xori v1333 v1334
  let c0_i32_920 : BitVec 32 := 0#32
  let v1332 : BitVec 1 := Scalar.cmpi .ne v1331 c0_i32_920
  let v1336 : BitVec 1 := Scalar.andi v1335 v1332
  let v1337 : BitVec 32 := Scalar.addi v1331 v1330
  let v1338 : BitVec 32 := Scalar.select v1336 v1337 v1331
  let v1339 : BitVec 32 := Scalar.muli c2_i32_923 v1338
  let v1340 : BitVec 32 := Scalar.subi v2 v1339
  let c3_i32_924 : BitVec 32 := 3#32
  let v1341 : BitVec 32 := Scalar.addi v1340 c3_i32_924
  v1341.toNat
def k0_dev40 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_949 : BitVec 32 := 1#32
  let v1375 : BitVec 32 := Scalar.addi v2 c1_i32_949
  let c2_i32_956 : BitVec 32 := 2#32
  let c4_i32_943 : BitVec 32 := 4#32
  let c0_i32_944 : BitVec 32 := 0#32
  let v1365 : BitVec 1 := Scalar.cmpi .eq c4_i32_943 c0_i32_944
  let c1_i32_945 : BitVec 32 := 1#32
  let v1366 : BitVec 32 := Scalar.select v1365 c1_i32_945 c4_i32_943
  let v1367 : BitVec 32 := Scalar.remsi v2 v1366
  let c0_i32_947 : BitVec 32 := 0#32
  let v1369 : BitVec 1 := Scalar.cmpi .slt v1367 c0_i32_947
  let c0_i32_948 : BitVec 32 := 0#32
  let v1370 : BitVec 1 := Scalar.cmpi .slt v1366 c0_i32_948
  let v1371 : BitVec 1 := Scalar.xori v1369 v1370
  let c0_i32_946 : BitVec 32 := 0#32
  let v1368 : BitVec 1 := Scalar.cmpi .ne v1367 c0_i32_946
  let v1372 : BitVec 1 := Scalar.andi v1371 v1368
  let v1373 : BitVec 32 := Scalar.addi v1367 v1366
  let v1374 : BitVec 32 := Scalar.select v1372 v1373 v1367
  let c2_i32_950 : BitVec 32 := 2#32
  let c0_i32_951 : BitVec 32 := 0#32
  let v1376 : BitVec 1 := Scalar.cmpi .eq c2_i32_950 c0_i32_951
  let c1_i32_952 : BitVec 32 := 1#32
  let v1377 : BitVec 32 := Scalar.select v1376 c1_i32_952 c2_i32_950
  let v1378 : BitVec 32 := Scalar.remsi v1374 v1377
  let c0_i32_954 : BitVec 32 := 0#32
  let v1380 : BitVec 1 := Scalar.cmpi .slt v1378 c0_i32_954
  let c0_i32_955 : BitVec 32 := 0#32
  let v1381 : BitVec 1 := Scalar.cmpi .slt v1377 c0_i32_955
  let v1382 : BitVec 1 := Scalar.xori v1380 v1381
  let c0_i32_953 : BitVec 32 := 0#32
  let v1379 : BitVec 1 := Scalar.cmpi .ne v1378 c0_i32_953
  let v1383 : BitVec 1 := Scalar.andi v1382 v1379
  let v1384 : BitVec 32 := Scalar.addi v1378 v1377
  let v1385 : BitVec 32 := Scalar.select v1383 v1384 v1378
  let v1386 : BitVec 32 := Scalar.muli c2_i32_956 v1385
  let v1387 : BitVec 32 := Scalar.subi v1375 v1386
  v1387.toNat
def k0_dev41 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_981 : BitVec 32 := 2#32
  let c4_i32_975 : BitVec 32 := 4#32
  let c0_i32_976 : BitVec 32 := 0#32
  let v1411 : BitVec 1 := Scalar.cmpi .eq c4_i32_975 c0_i32_976
  let c1_i32_977 : BitVec 32 := 1#32
  let v1412 : BitVec 32 := Scalar.select v1411 c1_i32_977 c4_i32_975
  let v1413 : BitVec 32 := Scalar.remsi v2 v1412
  let c0_i32_979 : BitVec 32 := 0#32
  let v1415 : BitVec 1 := Scalar.cmpi .slt v1413 c0_i32_979
  let c0_i32_980 : BitVec 32 := 0#32
  let v1416 : BitVec 1 := Scalar.cmpi .slt v1412 c0_i32_980
  let v1417 : BitVec 1 := Scalar.xori v1415 v1416
  let c0_i32_978 : BitVec 32 := 0#32
  let v1414 : BitVec 1 := Scalar.cmpi .ne v1413 c0_i32_978
  let v1418 : BitVec 1 := Scalar.andi v1417 v1414
  let v1419 : BitVec 32 := Scalar.addi v1413 v1412
  let v1420 : BitVec 32 := Scalar.select v1418 v1419 v1413
  let v1421 : BitVec 32 := Scalar.muli c2_i32_981 v1420
  let v1422 : BitVec 32 := Scalar.subi v2 v1421
  let c3_i32_982 : BitVec 32 := 3#32
  let v1423 : BitVec 32 := Scalar.addi v1422 c3_i32_982
  v1423.toNat
def k0_dev42 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1001 : BitVec 32 := 4#32
  let v1447 : BitVec 32 := Scalar.addi v2 c4_i32_1001
  let c8_i32_1002 : BitVec 32 := 8#32
  let c0_i32_1003 : BitVec 32 := 0#32
  let v1448 : BitVec 1 := Scalar.cmpi .eq c8_i32_1002 c0_i32_1003
  let c1_i32_1004 : BitVec 32 := 1#32
  let v1449 : BitVec 32 := Scalar.select v1448 c1_i32_1004 c8_i32_1002
  let v1450 : BitVec 32 := Scalar.remsi v1447 v1449
  let c0_i32_1006 : BitVec 32 := 0#32
  let v1452 : BitVec 1 := Scalar.cmpi .slt v1450 c0_i32_1006
  let c0_i32_1007 : BitVec 32 := 0#32
  let v1453 : BitVec 1 := Scalar.cmpi .slt v1449 c0_i32_1007
  let v1454 : BitVec 1 := Scalar.xori v1452 v1453
  let c0_i32_1005 : BitVec 32 := 0#32
  let v1451 : BitVec 1 := Scalar.cmpi .ne v1450 c0_i32_1005
  let v1455 : BitVec 1 := Scalar.andi v1454 v1451
  let v1456 : BitVec 32 := Scalar.addi v1450 v1449
  let v1457 : BitVec 32 := Scalar.select v1455 v1456 v1450
  v1457.toNat
def k0_dev43 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1032 : BitVec 32 := 1#32
  let v1491 : BitVec 32 := Scalar.addi v2 c1_i32_1032
  let c2_i32_1039 : BitVec 32 := 2#32
  let c4_i32_1026 : BitVec 32 := 4#32
  let c0_i32_1027 : BitVec 32 := 0#32
  let v1481 : BitVec 1 := Scalar.cmpi .eq c4_i32_1026 c0_i32_1027
  let c1_i32_1028 : BitVec 32 := 1#32
  let v1482 : BitVec 32 := Scalar.select v1481 c1_i32_1028 c4_i32_1026
  let v1483 : BitVec 32 := Scalar.remsi v2 v1482
  let c0_i32_1030 : BitVec 32 := 0#32
  let v1485 : BitVec 1 := Scalar.cmpi .slt v1483 c0_i32_1030
  let c0_i32_1031 : BitVec 32 := 0#32
  let v1486 : BitVec 1 := Scalar.cmpi .slt v1482 c0_i32_1031
  let v1487 : BitVec 1 := Scalar.xori v1485 v1486
  let c0_i32_1029 : BitVec 32 := 0#32
  let v1484 : BitVec 1 := Scalar.cmpi .ne v1483 c0_i32_1029
  let v1488 : BitVec 1 := Scalar.andi v1487 v1484
  let v1489 : BitVec 32 := Scalar.addi v1483 v1482
  let v1490 : BitVec 32 := Scalar.select v1488 v1489 v1483
  let c2_i32_1033 : BitVec 32 := 2#32
  let c0_i32_1034 : BitVec 32 := 0#32
  let v1492 : BitVec 1 := Scalar.cmpi .eq c2_i32_1033 c0_i32_1034
  let c1_i32_1035 : BitVec 32 := 1#32
  let v1493 : BitVec 32 := Scalar.select v1492 c1_i32_1035 c2_i32_1033
  let v1494 : BitVec 32 := Scalar.remsi v1490 v1493
  let c0_i32_1037 : BitVec 32 := 0#32
  let v1496 : BitVec 1 := Scalar.cmpi .slt v1494 c0_i32_1037
  let c0_i32_1038 : BitVec 32 := 0#32
  let v1497 : BitVec 1 := Scalar.cmpi .slt v1493 c0_i32_1038
  let v1498 : BitVec 1 := Scalar.xori v1496 v1497
  let c0_i32_1036 : BitVec 32 := 0#32
  let v1495 : BitVec 1 := Scalar.cmpi .ne v1494 c0_i32_1036
  let v1499 : BitVec 1 := Scalar.andi v1498 v1495
  let v1500 : BitVec 32 := Scalar.addi v1494 v1493
  let v1501 : BitVec 32 := Scalar.select v1499 v1500 v1494
  let v1502 : BitVec 32 := Scalar.muli c2_i32_1039 v1501
  let v1503 : BitVec 32 := Scalar.subi v1491 v1502
  v1503.toNat
def k0_dev44 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1064 : BitVec 32 := 2#32
  let c4_i32_1058 : BitVec 32 := 4#32
  let c0_i32_1059 : BitVec 32 := 0#32
  let v1527 : BitVec 1 := Scalar.cmpi .eq c4_i32_1058 c0_i32_1059
  let c1_i32_1060 : BitVec 32 := 1#32
  let v1528 : BitVec 32 := Scalar.select v1527 c1_i32_1060 c4_i32_1058
  let v1529 : BitVec 32 := Scalar.remsi v2 v1528
  let c0_i32_1062 : BitVec 32 := 0#32
  let v1531 : BitVec 1 := Scalar.cmpi .slt v1529 c0_i32_1062
  let c0_i32_1063 : BitVec 32 := 0#32
  let v1532 : BitVec 1 := Scalar.cmpi .slt v1528 c0_i32_1063
  let v1533 : BitVec 1 := Scalar.xori v1531 v1532
  let c0_i32_1061 : BitVec 32 := 0#32
  let v1530 : BitVec 1 := Scalar.cmpi .ne v1529 c0_i32_1061
  let v1534 : BitVec 1 := Scalar.andi v1533 v1530
  let v1535 : BitVec 32 := Scalar.addi v1529 v1528
  let v1536 : BitVec 32 := Scalar.select v1534 v1535 v1529
  let v1537 : BitVec 32 := Scalar.muli c2_i32_1064 v1536
  let v1538 : BitVec 32 := Scalar.subi v2 v1537
  let c3_i32_1065 : BitVec 32 := 3#32
  let v1539 : BitVec 32 := Scalar.addi v1538 c3_i32_1065
  v1539.toNat
def k0_dev45 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1084 : BitVec 32 := 4#32
  let v1563 : BitVec 32 := Scalar.addi v2 c4_i32_1084
  let c8_i32_1085 : BitVec 32 := 8#32
  let c0_i32_1086 : BitVec 32 := 0#32
  let v1564 : BitVec 1 := Scalar.cmpi .eq c8_i32_1085 c0_i32_1086
  let c1_i32_1087 : BitVec 32 := 1#32
  let v1565 : BitVec 32 := Scalar.select v1564 c1_i32_1087 c8_i32_1085
  let v1566 : BitVec 32 := Scalar.remsi v1563 v1565
  let c0_i32_1089 : BitVec 32 := 0#32
  let v1568 : BitVec 1 := Scalar.cmpi .slt v1566 c0_i32_1089
  let c0_i32_1090 : BitVec 32 := 0#32
  let v1569 : BitVec 1 := Scalar.cmpi .slt v1565 c0_i32_1090
  let v1570 : BitVec 1 := Scalar.xori v1568 v1569
  let c0_i32_1088 : BitVec 32 := 0#32
  let v1567 : BitVec 1 := Scalar.cmpi .ne v1566 c0_i32_1088
  let v1571 : BitVec 1 := Scalar.andi v1570 v1567
  let v1572 : BitVec 32 := Scalar.addi v1566 v1565
  let v1573 : BitVec 32 := Scalar.select v1571 v1572 v1566
  v1573.toNat
def k0_dev46 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1115 : BitVec 32 := 1#32
  let v1607 : BitVec 32 := Scalar.addi v2 c1_i32_1115
  let c2_i32_1122 : BitVec 32 := 2#32
  let c4_i32_1109 : BitVec 32 := 4#32
  let c0_i32_1110 : BitVec 32 := 0#32
  let v1597 : BitVec 1 := Scalar.cmpi .eq c4_i32_1109 c0_i32_1110
  let c1_i32_1111 : BitVec 32 := 1#32
  let v1598 : BitVec 32 := Scalar.select v1597 c1_i32_1111 c4_i32_1109
  let v1599 : BitVec 32 := Scalar.remsi v2 v1598
  let c0_i32_1113 : BitVec 32 := 0#32
  let v1601 : BitVec 1 := Scalar.cmpi .slt v1599 c0_i32_1113
  let c0_i32_1114 : BitVec 32 := 0#32
  let v1602 : BitVec 1 := Scalar.cmpi .slt v1598 c0_i32_1114
  let v1603 : BitVec 1 := Scalar.xori v1601 v1602
  let c0_i32_1112 : BitVec 32 := 0#32
  let v1600 : BitVec 1 := Scalar.cmpi .ne v1599 c0_i32_1112
  let v1604 : BitVec 1 := Scalar.andi v1603 v1600
  let v1605 : BitVec 32 := Scalar.addi v1599 v1598
  let v1606 : BitVec 32 := Scalar.select v1604 v1605 v1599
  let c2_i32_1116 : BitVec 32 := 2#32
  let c0_i32_1117 : BitVec 32 := 0#32
  let v1608 : BitVec 1 := Scalar.cmpi .eq c2_i32_1116 c0_i32_1117
  let c1_i32_1118 : BitVec 32 := 1#32
  let v1609 : BitVec 32 := Scalar.select v1608 c1_i32_1118 c2_i32_1116
  let v1610 : BitVec 32 := Scalar.remsi v1606 v1609
  let c0_i32_1120 : BitVec 32 := 0#32
  let v1612 : BitVec 1 := Scalar.cmpi .slt v1610 c0_i32_1120
  let c0_i32_1121 : BitVec 32 := 0#32
  let v1613 : BitVec 1 := Scalar.cmpi .slt v1609 c0_i32_1121
  let v1614 : BitVec 1 := Scalar.xori v1612 v1613
  let c0_i32_1119 : BitVec 32 := 0#32
  let v1611 : BitVec 1 := Scalar.cmpi .ne v1610 c0_i32_1119
  let v1615 : BitVec 1 := Scalar.andi v1614 v1611
  let v1616 : BitVec 32 := Scalar.addi v1610 v1609
  let v1617 : BitVec 32 := Scalar.select v1615 v1616 v1610
  let v1618 : BitVec 32 := Scalar.muli c2_i32_1122 v1617
  let v1619 : BitVec 32 := Scalar.subi v1607 v1618
  v1619.toNat
def k0_dev47 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1147 : BitVec 32 := 2#32
  let c4_i32_1141 : BitVec 32 := 4#32
  let c0_i32_1142 : BitVec 32 := 0#32
  let v1643 : BitVec 1 := Scalar.cmpi .eq c4_i32_1141 c0_i32_1142
  let c1_i32_1143 : BitVec 32 := 1#32
  let v1644 : BitVec 32 := Scalar.select v1643 c1_i32_1143 c4_i32_1141
  let v1645 : BitVec 32 := Scalar.remsi v2 v1644
  let c0_i32_1145 : BitVec 32 := 0#32
  let v1647 : BitVec 1 := Scalar.cmpi .slt v1645 c0_i32_1145
  let c0_i32_1146 : BitVec 32 := 0#32
  let v1648 : BitVec 1 := Scalar.cmpi .slt v1644 c0_i32_1146
  let v1649 : BitVec 1 := Scalar.xori v1647 v1648
  let c0_i32_1144 : BitVec 32 := 0#32
  let v1646 : BitVec 1 := Scalar.cmpi .ne v1645 c0_i32_1144
  let v1650 : BitVec 1 := Scalar.andi v1649 v1646
  let v1651 : BitVec 32 := Scalar.addi v1645 v1644
  let v1652 : BitVec 32 := Scalar.select v1650 v1651 v1645
  let v1653 : BitVec 32 := Scalar.muli c2_i32_1147 v1652
  let v1654 : BitVec 32 := Scalar.subi v2 v1653
  let c3_i32_1148 : BitVec 32 := 3#32
  let v1655 : BitVec 32 := Scalar.addi v1654 c3_i32_1148
  v1655.toNat
def k0_dev48 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1167 : BitVec 32 := 4#32
  let v1679 : BitVec 32 := Scalar.addi v2 c4_i32_1167
  let c8_i32_1168 : BitVec 32 := 8#32
  let c0_i32_1169 : BitVec 32 := 0#32
  let v1680 : BitVec 1 := Scalar.cmpi .eq c8_i32_1168 c0_i32_1169
  let c1_i32_1170 : BitVec 32 := 1#32
  let v1681 : BitVec 32 := Scalar.select v1680 c1_i32_1170 c8_i32_1168
  let v1682 : BitVec 32 := Scalar.remsi v1679 v1681
  let c0_i32_1172 : BitVec 32 := 0#32
  let v1684 : BitVec 1 := Scalar.cmpi .slt v1682 c0_i32_1172
  let c0_i32_1173 : BitVec 32 := 0#32
  let v1685 : BitVec 1 := Scalar.cmpi .slt v1681 c0_i32_1173
  let v1686 : BitVec 1 := Scalar.xori v1684 v1685
  let c0_i32_1171 : BitVec 32 := 0#32
  let v1683 : BitVec 1 := Scalar.cmpi .ne v1682 c0_i32_1171
  let v1687 : BitVec 1 := Scalar.andi v1686 v1683
  let v1688 : BitVec 32 := Scalar.addi v1682 v1681
  let v1689 : BitVec 32 := Scalar.select v1687 v1688 v1682
  v1689.toNat
def k0_dev49 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1198 : BitVec 32 := 1#32
  let v1723 : BitVec 32 := Scalar.addi v2 c1_i32_1198
  let c2_i32_1205 : BitVec 32 := 2#32
  let c4_i32_1192 : BitVec 32 := 4#32
  let c0_i32_1193 : BitVec 32 := 0#32
  let v1713 : BitVec 1 := Scalar.cmpi .eq c4_i32_1192 c0_i32_1193
  let c1_i32_1194 : BitVec 32 := 1#32
  let v1714 : BitVec 32 := Scalar.select v1713 c1_i32_1194 c4_i32_1192
  let v1715 : BitVec 32 := Scalar.remsi v2 v1714
  let c0_i32_1196 : BitVec 32 := 0#32
  let v1717 : BitVec 1 := Scalar.cmpi .slt v1715 c0_i32_1196
  let c0_i32_1197 : BitVec 32 := 0#32
  let v1718 : BitVec 1 := Scalar.cmpi .slt v1714 c0_i32_1197
  let v1719 : BitVec 1 := Scalar.xori v1717 v1718
  let c0_i32_1195 : BitVec 32 := 0#32
  let v1716 : BitVec 1 := Scalar.cmpi .ne v1715 c0_i32_1195
  let v1720 : BitVec 1 := Scalar.andi v1719 v1716
  let v1721 : BitVec 32 := Scalar.addi v1715 v1714
  let v1722 : BitVec 32 := Scalar.select v1720 v1721 v1715
  let c2_i32_1199 : BitVec 32 := 2#32
  let c0_i32_1200 : BitVec 32 := 0#32
  let v1724 : BitVec 1 := Scalar.cmpi .eq c2_i32_1199 c0_i32_1200
  let c1_i32_1201 : BitVec 32 := 1#32
  let v1725 : BitVec 32 := Scalar.select v1724 c1_i32_1201 c2_i32_1199
  let v1726 : BitVec 32 := Scalar.remsi v1722 v1725
  let c0_i32_1203 : BitVec 32 := 0#32
  let v1728 : BitVec 1 := Scalar.cmpi .slt v1726 c0_i32_1203
  let c0_i32_1204 : BitVec 32 := 0#32
  let v1729 : BitVec 1 := Scalar.cmpi .slt v1725 c0_i32_1204
  let v1730 : BitVec 1 := Scalar.xori v1728 v1729
  let c0_i32_1202 : BitVec 32 := 0#32
  let v1727 : BitVec 1 := Scalar.cmpi .ne v1726 c0_i32_1202
  let v1731 : BitVec 1 := Scalar.andi v1730 v1727
  let v1732 : BitVec 32 := Scalar.addi v1726 v1725
  let v1733 : BitVec 32 := Scalar.select v1731 v1732 v1726
  let v1734 : BitVec 32 := Scalar.muli c2_i32_1205 v1733
  let v1735 : BitVec 32 := Scalar.subi v1723 v1734
  v1735.toNat
def k0_dev50 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1230 : BitVec 32 := 2#32
  let c4_i32_1224 : BitVec 32 := 4#32
  let c0_i32_1225 : BitVec 32 := 0#32
  let v1759 : BitVec 1 := Scalar.cmpi .eq c4_i32_1224 c0_i32_1225
  let c1_i32_1226 : BitVec 32 := 1#32
  let v1760 : BitVec 32 := Scalar.select v1759 c1_i32_1226 c4_i32_1224
  let v1761 : BitVec 32 := Scalar.remsi v2 v1760
  let c0_i32_1228 : BitVec 32 := 0#32
  let v1763 : BitVec 1 := Scalar.cmpi .slt v1761 c0_i32_1228
  let c0_i32_1229 : BitVec 32 := 0#32
  let v1764 : BitVec 1 := Scalar.cmpi .slt v1760 c0_i32_1229
  let v1765 : BitVec 1 := Scalar.xori v1763 v1764
  let c0_i32_1227 : BitVec 32 := 0#32
  let v1762 : BitVec 1 := Scalar.cmpi .ne v1761 c0_i32_1227
  let v1766 : BitVec 1 := Scalar.andi v1765 v1762
  let v1767 : BitVec 32 := Scalar.addi v1761 v1760
  let v1768 : BitVec 32 := Scalar.select v1766 v1767 v1761
  let v1769 : BitVec 32 := Scalar.muli c2_i32_1230 v1768
  let v1770 : BitVec 32 := Scalar.subi v2 v1769
  let c3_i32_1231 : BitVec 32 := 3#32
  let v1771 : BitVec 32 := Scalar.addi v1770 c3_i32_1231
  v1771.toNat
def k0_dev51 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1250 : BitVec 32 := 4#32
  let v1795 : BitVec 32 := Scalar.addi v2 c4_i32_1250
  let c8_i32_1251 : BitVec 32 := 8#32
  let c0_i32_1252 : BitVec 32 := 0#32
  let v1796 : BitVec 1 := Scalar.cmpi .eq c8_i32_1251 c0_i32_1252
  let c1_i32_1253 : BitVec 32 := 1#32
  let v1797 : BitVec 32 := Scalar.select v1796 c1_i32_1253 c8_i32_1251
  let v1798 : BitVec 32 := Scalar.remsi v1795 v1797
  let c0_i32_1255 : BitVec 32 := 0#32
  let v1800 : BitVec 1 := Scalar.cmpi .slt v1798 c0_i32_1255
  let c0_i32_1256 : BitVec 32 := 0#32
  let v1801 : BitVec 1 := Scalar.cmpi .slt v1797 c0_i32_1256
  let v1802 : BitVec 1 := Scalar.xori v1800 v1801
  let c0_i32_1254 : BitVec 32 := 0#32
  let v1799 : BitVec 1 := Scalar.cmpi .ne v1798 c0_i32_1254
  let v1803 : BitVec 1 := Scalar.andi v1802 v1799
  let v1804 : BitVec 32 := Scalar.addi v1798 v1797
  let v1805 : BitVec 32 := Scalar.select v1803 v1804 v1798
  v1805.toNat
def k0_off13 (d0 : Dev nD) (c0_i32_1271 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v100 : BitVec 32 := Scalar.subi c1_i32_53 v16
  let c512_i32_54 : BitVec 32 := 512#32
  let v101 : BitVec 32 := Scalar.muli v100 c512_i32_54
  let v1820 : BitVec 32 := Scalar.addi v101 c0_i32_1271
  let v1821 : Index := Scalar.indexCast v1820
  let c0_1272 : Index := 0#32
  ![v1821.toNat, 0]
def k0_off14 (d0 : Dev nD) (c0_i32_1281 : BitVec 32) : Fin 2 → Nat :=
  let c1_i32_56 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let v103 : BitVec 32 := Scalar.subi c1_i32_56 v33
  let c512_i32_57 : BitVec 32 := 512#32
  let v104 : BitVec 32 := Scalar.muli v103 c512_i32_57
  let v1829 : BitVec 32 := Scalar.addi v104 c0_i32_1281
  let v1830 : Index := Scalar.indexCast v1829
  let c384_1282 : Index := 384#32
  ![v1830.toNat, 384]
def k0_off15 (d0 : Dev nD) (c0_i32_1291 : BitVec 32) : Fin 2 → Nat :=
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v106 : BitVec 32 := Scalar.subi c1_i32_59 v50
  let c512_i32_60 : BitVec 32 := 512#32
  let v107 : BitVec 32 := Scalar.muli v106 c512_i32_60
  let v1838 : BitVec 32 := Scalar.addi v107 c0_i32_1291
  let v1839 : Index := Scalar.indexCast v1838
  let c768_1292 : Index := 768#32
  ![v1839.toNat, 768]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Flat.lean ====
/-
The kernel's body as a short program.

the statement writes the body with loops over parts, stages and chunks; the printed program has them
unrolled into some eight hundred operations. Here the same operations are written once per kind, over a
part `p`, a stage `w` and a chunk `h`, and the body is the fold of those pieces over the lists of indices
(`flat`). `body_eq` says the printed body is that program.

Names. Part `p` is a block of columns of the result (`C p` columns from column `c0 p`). Stage `w` is one
of the four exchanges of a part: three of the reduction, one that copies the finished half back. Chunk `h`
is 128 rows of the 512 rows of a half. `ax p w` is the axis of the cube along which part `p` exchanges at
stage `w`, `nbr a c` the neighbour of device `c` along axis `a`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.AllReduce

open Cert.KernelIdeal Cert.KernelIdeal.Gen
open Idealize.ShloMosaic Idealize.ShloMosaic.TcCoe
open Idealize.SL.Sem

variable {F : FTy → Type} [FloatOps F]

/-! ## Indices, shapes and neighbours -/

/-- A transfer of a device: its part, its stage and its chunk. -/
abbrev Xf : Type := Fin 3 × Fin 4 × Fin 4

/-- The columns of a part. -/
def C : Fin 3 → ℕ
  | 0 => 384
  | 1 => 384
  | 2 => 256

/-- The first column of a part. -/
def c0 : Fin 3 → ℕ
  | 0 => 0
  | 1 => 384
  | 2 => 768

/-- The shape of half a part: 512 rows. -/
abbrev SH (p : Fin 3) : Shape := ⟨2, ![512, C p]⟩
/-- The shape of a chunk: 128 rows. -/
abbrev SC (p : Fin 3) : Shape := ⟨2, ![128, C p]⟩

/-- The axis along which part `p` exchanges at stage `w`; the last stage goes back along the first axis. -/
def ax : Fin 3 → Fin 4 → Fin 3
  | 0, w => ![0, 1, 2, 0] w
  | 1, w => ![1, 2, 0, 1] w
  | 2, w => ![2, 0, 1, 2] w

/-- The neighbour of a device along an axis of the cube. -/
def nbr : Fin 3 → Fin 8 → Fin 8
  | 0 => ![1, 0, 3, 2, 5, 4, 7, 6]
  | 1 => ![3, 2, 1, 0, 7, 6, 5, 4]
  | 2 => ![4, 5, 6, 7, 0, 1, 2, 3]

/-- A neighbour's neighbour along the same axis is the device. -/
theorem nbr_nbr : ∀ (a : Fin 3) (c : Fin 8), nbr a (nbr a c) = c := by decide

/-- A device's coordinate along an axis. -/
def coord : Fin 3 → Fin 8 → ℕ
  | 0 => ![0, 1, 1, 0, 0, 1, 1, 0]
  | 1 => ![0, 0, 1, 1, 0, 0, 1, 1]
  | 2 => ![0, 0, 0, 0, 1, 1, 1, 1]

/-- The first row of the half of part `p` that device `c` reduces. -/
def keep (p : Fin 3) (c : Fin 8) : ℕ := 512 * coord (ax p 0) c
/-- The first row of the half of part `p` that device `c` sends away. -/
def send (p : Fin 3) (c : Fin 8) : ℕ := 512 * (1 - coord (ax p 0) c)

/-- The number of the printed device expression of the transfer of stage `w`, chunk `h`, part `p`. -/
def devN (c : Dev nD) (w h : Fin 4) (p : Fin 3) : ℕ :=
  (![![![k0_dev4 c, k0_dev8 c, k0_dev12 c], ![k0_dev5 c, k0_dev9 c, k0_dev13 c], ![k0_dev6 c, k0_dev10 c, k0_dev14 c], ![k0_dev7 c, k0_dev11 c, k0_dev15 c]],
     ![![k0_dev16 c, k0_dev17 c, k0_dev18 c], ![k0_dev19 c, k0_dev20 c, k0_dev21 c], ![k0_dev22 c, k0_dev23 c, k0_dev24 c], ![k0_dev25 c, k0_dev26 c, k0_dev27 c]],
     ![![k0_dev28 c, k0_dev29 c, k0_dev30 c], ![k0_dev31 c, k0_dev32 c, k0_dev33 c], ![k0_dev34 c, k0_dev35 c, k0_dev36 c], ![k0_dev37 c, k0_dev38 c, k0_dev39 c]],
     ![![k0_dev40 c, k0_dev41 c, k0_dev42 c], ![k0_dev43 c, k0_dev44 c, k0_dev45 c], ![k0_dev46 c, k0_dev47 c, k0_dev48 c], ![k0_dev49 c, k0_dev50 c, k0_dev51 c]]] : Fin 4 → Fin 4 → Fin 3 → ℕ) w h p

/-- Every transfer of stage `w` of part `p` goes to the neighbour along that stage's axis. -/
theorem devN_eq : ∀ (c : Dev nD) (w h : Fin 4) (p : Fin 3), devN c w h p = (nbr (ax p w) c).val := by
  decide +kernel

theorem devN_lt (c : Dev nD) (w h : Fin 4) (p : Fin 3) : devN c w h p < nD := by
  rw [devN_eq]; exact (nbr (ax p w) c).isLt

/-- The three barrier signals go to the three neighbours. -/
def devB (c : Dev nD) (a : Fin 3) : ℕ := ![k0_dev1 c, k0_dev2 c, k0_dev3 c] a

theorem devB_eq : ∀ (c : Dev nD) (a : Fin 3), devB c a = (nbr a c).val := by decide +kernel

theorem devB_lt (c : Dev nD) (a : Fin 3) : devB c a < nD := by
  rw [devB_eq]; exact (nbr a c).isLt

/-! ## Buffers and semaphores -/

/-- The send buffer of part `p` at stage `w`. -/
def sb : (p : Fin 3) → Fin 4 → Memref sig .tc .vmem (SH p) .bf16
  | 0, 0 => Memref.whole cc0_scratch0
  | 0, 1 => Memref.whole cc0_scratch2
  | 0, 2 => Memref.whole cc0_scratch4
  | 0, 3 => Memref.whole cc0_scratch6
  | 1, 0 => Memref.whole cc0_scratch8
  | 1, 1 => Memref.whole cc0_scratch10
  | 1, 2 => Memref.whole cc0_scratch12
  | 1, 3 => Memref.whole cc0_scratch14
  | 2, 0 => Memref.whole cc0_scratch16
  | 2, 1 => Memref.whole cc0_scratch18
  | 2, 2 => Memref.whole cc0_scratch20
  | 2, 3 => Memref.whole cc0_scratch22

/-- The receive buffer of part `p` at stage `w`. -/
def rb : (p : Fin 3) → Fin 4 → Memref sig .tc .vmem (SH p) .bf16
  | 0, 0 => Memref.whole cc0_scratch1
  | 0, 1 => Memref.whole cc0_scratch3
  | 0, 2 => Memref.whole cc0_scratch5
  | 0, 3 => Memref.whole cc0_scratch7
  | 1, 0 => Memref.whole cc0_scratch9
  | 1, 1 => Memref.whole cc0_scratch11
  | 1, 2 => Memref.whole cc0_scratch13
  | 1, 3 => Memref.whole cc0_scratch15
  | 2, 0 => Memref.whole cc0_scratch17
  | 2, 1 => Memref.whole cc0_scratch19
  | 2, 2 => Memref.whole cc0_scratch21
  | 2, 3 => Memref.whole cc0_scratch23

theorem sb_whole : ∀ (p : Fin 3) (w : Fin 4), (sb p w).IsWhole
  | 0, 0 => Memref.isWhole_whole _
  | 0, 1 => Memref.isWhole_whole _
  | 0, 2 => Memref.isWhole_whole _
  | 0, 3 => Memref.isWhole_whole _
  | 1, 0 => Memref.isWhole_whole _
  | 1, 1 => Memref.isWhole_whole _
  | 1, 2 => Memref.isWhole_whole _
  | 1, 3 => Memref.isWhole_whole _
  | 2, 0 => Memref.isWhole_whole _
  | 2, 1 => Memref.isWhole_whole _
  | 2, 2 => Memref.isWhole_whole _
  | 2, 3 => Memref.isWhole_whole _

theorem rb_whole : ∀ (p : Fin 3) (w : Fin 4), (rb p w).IsWhole
  | 0, 0 => Memref.isWhole_whole _
  | 0, 1 => Memref.isWhole_whole _
  | 0, 2 => Memref.isWhole_whole _
  | 0, 3 => Memref.isWhole_whole _
  | 1, 0 => Memref.isWhole_whole _
  | 1, 1 => Memref.isWhole_whole _
  | 1, 2 => Memref.isWhole_whole _
  | 1, 3 => Memref.isWhole_whole _
  | 2, 0 => Memref.isWhole_whole _
  | 2, 1 => Memref.isWhole_whole _
  | 2, 2 => Memref.isWhole_whole _
  | 2, 3 => Memref.isWhole_whole _

/-- The activations, the weights and the result, where the body finds them. -/
abbrev mx : Memref sig .tc .vmem S1024x128 .bf16 := Memref.whole cc0_stg0_0
abbrev mw : Memref sig .tc .vmem S128x1024 .bf16 := Memref.whole cc0_stg1_0
abbrev mo : Memref sig .tc .vmem S1024x1024 .f32 := Memref.whole cc0_stg2_0

/-- A transfer's place in the two semaphore arrays. -/
def sidx (i : Xf) : ℕ := 16 * i.1.val + 4 * i.2.1.val + i.2.2.val

theorem sidx_inb (i : Xf) : ∀ a, (![sidx i] : Fin 1 → ℕ) a + S1.size a ≤ S48.size a := by
  obtain ⟨p, w, h⟩ := i
  intro a; fin_cases a
  show 16 * p.val + 4 * w.val + h.val + 1 ≤ 48
  omega

/-- The semaphore a transfer signals at its sender, -/
def ssem (i : Xf) : DmaSem sig :=
  ((cc0_scratch24.slice (Rect.unit (s := S48) ![sidx i] S1.size (sidx_inb i))).squeeze S_ squeezes_S1_S_).sem
/-- and at its receiver. -/
def rsem (i : Xf) : DmaSem sig :=
  ((cc0_scratch25.slice (Rect.unit (s := S48) ![sidx i] S1.size (sidx_inb i))).squeeze S_ squeezes_S1_S_).sem

/-- The barrier semaphore. -/
abbrev bsem : Sem sig := (SemArray.scalar (sig.barrier 0 rfl) : Sems sig S_).sem

/-! ## Rectangles -/

/-- The whole of half a part, and chunk `h` of it. -/
theorem rH_inb (p : Fin 3) : ∀ a, (![0, 0] : Fin 2 → ℕ) a + (SH p).size a ≤ (SH p).size a := by
  intro a; fin_cases a <;> simp
abbrev rH (p : Fin 3) : Rect (SH p) := Rect.unit (s := SH p) ![0, 0] (SH p).size (rH_inb p)

theorem rC_inb (p : Fin 3) (h : Fin 4) : ∀ a, (![128 * h.val, 0] : Fin 2 → ℕ) a + (SC p).size a ≤ (SH p).size a := by
  intro a; fin_cases a
  · show 128 * h.val + 128 ≤ 512; omega
  · show 0 + C p ≤ C p; omega
abbrev rC (p : Fin 3) (h : Fin 4) : Rect (SH p) := Rect.unit (s := SH p) ![128 * h.val, 0] (SC p).size (rC_inb p h)

/-- Chunk `h` of the send buffer and of the receive buffer. -/
abbrev sbC (i : Xf) : Memref sig .tc .vmem (SC i.1) .bf16 := (sb i.1 i.2.1).slice (rC i.1 i.2.2) (fun _ => rfl)
abbrev rbC (i : Xf) : Memref sig .tc .vmem (SC i.1) .bf16 := (rb i.1 i.2.1).slice (rC i.1 i.2.2) (fun _ => rfl)

/-- The columns of part `p` of the weights. -/
theorem rW_inb : ∀ (p : Fin 3) (a : Fin 2), (![0, c0 p] : Fin 2 → ℕ) a + (SC p).size a ≤ S128x1024.size a := by decide
abbrev rW (p : Fin 3) : Rect S128x1024 := Rect.unit (s := S128x1024) ![0, c0 p] (SC p).size (rW_inb p)

/-- The rows of the activations for the half sent away, as printed, -/
def offXs (c : Dev nD) : Fin 3 → Fin 2 → ℕ
  | 0 => k0_off1 c
  | 1 => k0_off2 c
  | 2 => k0_off3 c
/-- and for the half kept. -/
def offXk (c : Dev nD) : Fin 3 → Fin 2 → ℕ
  | 0 => k0_off4 c
  | 1 => k0_off6 c
  | 2 => k0_off8 c
/-- The half of part `p` of the result that is kept, as printed, -/
def offO (c : Dev nD) : Fin 3 → Fin 2 → ℕ
  | 0 => k0_off5 c
  | 1 => k0_off7 c
  | 2 => k0_off9 c
/-- its chunk `h`, -/
def offK (c : Dev nD) (p : Fin 3) (h : Fin 4) : Fin 2 → ℕ :=
  match p with
  | 0 => k0_off10 c (BitVec.ofNat 32 (128 * h.val))
  | 1 => k0_off11 c (BitVec.ofNat 32 (128 * h.val))
  | 2 => k0_off12 c (BitVec.ofNat 32 (128 * h.val))
/-- and chunk `h` of the half sent away. -/
def offS (c : Dev nD) (p : Fin 3) (h : Fin 4) : Fin 2 → ℕ :=
  match p with
  | 0 => k0_off13 c (BitVec.ofNat 32 (128 * h.val))
  | 1 => k0_off14 c (BitVec.ofNat 32 (128 * h.val))
  | 2 => k0_off15 c (BitVec.ofNat 32 (128 * h.val))

/-- What the printed offsets are. -/
theorem offXs_eq : ∀ (c : Dev nD) (p : Fin 3), offXs c p = ![send p c, 0] := by decide +kernel
theorem offXk_eq : ∀ (c : Dev nD) (p : Fin 3), offXk c p = ![keep p c, 0] := by decide +kernel
theorem offO_eq : ∀ (c : Dev nD) (p : Fin 3), offO c p = ![keep p c, c0 p] := by decide +kernel
theorem offK_eq : ∀ (c : Dev nD) (p : Fin 3) (h : Fin 4), offK c p h = ![keep p c + 128 * h.val, c0 p] := by decide +kernel
theorem offS_eq : ∀ (c : Dev nD) (p : Fin 3) (h : Fin 4), offS c p h = ![send p c + 128 * h.val, c0 p] := by decide +kernel

theorem offXs_inb : ∀ (c : Dev nD) (p : Fin 3) (a : Fin 2), offXs c p a + S512x128.size a ≤ S1024x128.size a := by decide +kernel
theorem offXk_inb : ∀ (c : Dev nD) (p : Fin 3) (a : Fin 2), offXk c p a + S512x128.size a ≤ S1024x128.size a := by decide +kernel
theorem offO_inb : ∀ (c : Dev nD) (p : Fin 3) (a : Fin 2), offO c p a + (SH p).size a ≤ S1024x1024.size a := by decide +kernel
theorem offK_inb : ∀ (c : Dev nD) (p : Fin 3) (h : Fin 4) (a : Fin 2), offK c p h a + (SC p).size a ≤ S1024x1024.size a := by decide +kernel
theorem offS_inb : ∀ (c : Dev nD) (p : Fin 3) (h : Fin 4) (a : Fin 2), offS c p h a + (SC p).size a ≤ S1024x1024.size a := by decide +kernel

abbrev rXs (c : Dev nD) (p : Fin 3) : Rect S1024x128 := Rect.unit (s := S1024x128) (offXs c p) S512x128.size (offXs_inb c p)
abbrev rXk (c : Dev nD) (p : Fin 3) : Rect S1024x128 := Rect.unit (s := S1024x128) (offXk c p) S512x128.size (offXk_inb c p)
abbrev rO (c : Dev nD) (p : Fin 3) : Rect S1024x1024 := Rect.unit (s := S1024x1024) (offO c p) (SH p).size (offO_inb c p)
abbrev rK (c : Dev nD) (p : Fin 3) (h : Fin 4) : Rect S1024x1024 := Rect.unit (s := S1024x1024) (offK c p h) (SC p).size (offK_inb c p h)
abbrev rS (c : Dev nD) (p : Fin 3) (h : Fin 4) : Rect S1024x1024 := Rect.unit (s := S1024x1024) (offS c p h) (SC p).size (offS_inb c p h)

/-! ## What the operations ask for -/

theorem posH : ∀ p : Fin 3, 0 < (SH p).numel := by decide
theorem posC : ∀ p : Fin 3, 0 < (SC p).numel := by decide

theorem packedH : ∀ p : Fin 3, (rH p).PackedRows (EltTy.packing .bf16) := by decide
theorem packedC : ∀ (p : Fin 3) (h : Fin 4), (rC p h).PackedRows (EltTy.packing .bf16) := by decide
theorem wordsC (p : Fin 3) (h : Fin 4) : (rC p h).WholeWords (EltTy.packing .bf16) := .inl (packedC p h)

theorem sb_storesH (p : Fin 3) (w : Fin 4) : (((sb p w).access (rH p)).Stores Finset.univ) :=
  View.stores_vmem (posH p) ((sb_whole p w).storeExact_slice rfl _ (packedH p)) (fun _ => rfl)
theorem sb_storesC (p : Fin 3) (w h : Fin 4) : (((sb p w).access (rC p h)).Stores Finset.univ) :=
  View.stores_vmem (posC p) ((sb_whole p w).storeExact_slice rfl _ (packedC p h)) (fun _ => rfl)
theorem sb_words (i : Xf) : (sbC i).view.WordExact := (sb_whole i.1 i.2.1).wordExact_slice rfl _ (wordsC i.1 i.2.2)
theorem rb_words (i : Xf) : (rbC i).view.WordExact := (rb_whole i.1 i.2.1).wordExact_slice rfl _ (wordsC i.1 i.2.2)

/-! ## The values the body computes -/

/-- The product of half the activations' rows with a part's columns of the weights. -/
def pprod : (p : Fin 3) → Vec F S512x128 .bf16 → Vec F (SC p) .bf16 → FVec F (SH p) .f32
  | 0 => k0_pay4
  | 1 => k0_pay5
  | 2 => k0_pay6
/-- That product as sent: in half precision. -/
def pprodB : (p : Fin 3) → Vec F S512x128 .bf16 → Vec F (SC p) .bf16 → FVec F (SH p) .bf16
  | 0 => k0_pay1
  | 1 => k0_pay2
  | 2 => k0_pay3
/-- The chunk kept plus the chunk received, -/
def psum : (p : Fin 3) → Vec F (SC p) .f32 → Vec F (SC p) .bf16 → FVec F (SC p) .f32
  | 0 => k0_pay7
  | 1 => k0_pay9
  | 2 => k0_pay11
/-- and as sent. -/
def psumB : (p : Fin 3) → Vec F (SC p) .f32 → Vec F (SC p) .bf16 → FVec F (SC p) .bf16
  | 0 => k0_pay8
  | 1 => k0_pay10
  | 2 => k0_pay12
/-- A received chunk in single precision. -/
def pext : (p : Fin 3) → Vec F (SC p) .bf16 → FVec F (SC p) .f32
  | 0 => k0_pay85
  | 1 => k0_pay86
  | 2 => k0_pay87

/-! ## The pieces -/

/-- A program of the body. -/
abbrev PG (F : FTy → Type) : Type 1 := Prog (TpuEff nD τ sig (Elt F) Λ₀ .tc) PUnit

/-- Send transfer `i`, then `k`. -/
def sendOp (c : Dev nD) (i : Xf) (k : PG F) : PG F :=
  .op (.enqueueDma (sbC i) (.remote (Dev.tc (⟨devN c i.2.1 i.2.2 i.1, devN_lt c i.2.1 i.2.2 i.1⟩ : Dev nD)) (rbC i) (.dma (ssem i)))
    (.dma (rsem i)) (sb_words i) (rb_words i) ⟨⟨rfl, Or.inl rfl⟩, trivial⟩) fun _ => k

/-- Wait for the arrival of transfer `i`, then `k`. -/
def waitRecv (i : Xf) (k : PG F) : PG F :=
  .op (.waitDma2 (rsem i) (sbC i) (rbC i) (sb_words i) (rb_words i)) fun _ => k

/-- Wait until transfer `i` has left, then `k`. -/
def waitSend (i : Xf) (k : PG F) : PG F :=
  .op (.waitDma2 (ssem i) (rbC i) (sbC i) (rb_words i) (sb_words i)) fun _ => k

/-- The barrier: a signal to each neighbour, then a wait for all three. -/
def barrier (c : Dev nD) (k : PG F) : PG F :=
  .op (.semSignal ((⟨devB c 0, devB_lt c 0⟩ : Dev nD), Proc.tc) bsem (1#32).toInt) fun _ =>
  .op (.semSignal ((⟨devB c 1, devB_lt c 1⟩ : Dev nD), Proc.tc) bsem (1#32).toInt) fun _ =>
  .op (.semSignal ((⟨devB c 2, devB_lt c 2⟩ : Dev nD), Proc.tc) bsem (1#32).toInt) fun _ =>
  .op (.semWait bsem (3#32).toInt) fun _ => k

/-- The product for the half sent away, into the first send buffer; its four chunks sent. -/
def partA (c : Dev nD) (p : Fin 3) (k : PG F) : PG F :=
  .op (.load mx (rXs c p).toLoadRect (View.loadsAt_vmem h_S512x128)) fun x =>
  .op (.load mw (rW p).toLoadRect (View.loadsAt_vmem (posC p))) fun w =>
  .op (.load (sb p 0) (rH p).toLoadRect (View.loadsAt_vmem (posH p))) fun _ =>
  .op (.store (sb p 0) (rH p) (pprodB p x w) Finset.univ (sb_storesH p 0) (.inl rfl)) fun _ =>
  sendOp c (p, 0, 0) <| sendOp c (p, 0, 1) <| sendOp c (p, 0, 2) <| sendOp c (p, 0, 3) k

/-- The product for the half kept, into the result. -/
def partB (c : Dev nD) (p : Fin 3) (k : PG F) : PG F :=
  .op (.load mx (rXk c p).toLoadRect (View.loadsAt_vmem h_S512x128)) fun x =>
  .op (.load mw (rW p).toLoadRect (View.loadsAt_vmem (posC p))) fun w =>
  .op (.load mo (rO c p).toLoadRect (View.loadsAt_vmem (posH p))) fun _ =>
  .op (.store mo (rO c p) (pprod p x w) Finset.univ (View.stores_vmem_bits_univ (posH p) rfl) (.inl rfl)) fun _ => k

/-- Stage `w` of the reduction on chunk `h` of part `p`: receive, add, send on, store. -/
def partC (c : Dev nD) (w : Fin 3) (h : Fin 4) (p : Fin 3) (k : PG F) : PG F :=
  waitRecv (p, w.castSucc, h) <|
  .op (.load mo (rK c p h).toLoadRect (View.loadsAt_vmem (posC p))) fun o =>
  .op (.load (rb p w.castSucc) (rC p h).toLoadRect (View.loadsAt_vmem (posC p))) fun r =>
  .op (.load (sb p w.succ) (rC p h).toLoadRect (View.loadsAt_vmem (posC p))) fun _ =>
  .op (.store (sb p w.succ) (rC p h) (psumB p o r) Finset.univ (sb_storesC p w.succ h) (.inl rfl)) fun _ =>
  sendOp c (p, w.succ, h) <|
  .op (.load mo (rK c p h).toLoadRect (View.loadsAt_vmem (posC p))) fun _ =>
  .op (.store mo (rK c p h) (psum p o r) Finset.univ (View.stores_vmem_bits_univ (posC p) rfl) (.inl rfl)) fun _ => k

/-- The finished chunk `h` of the other half of part `p`: receive and store. -/
def partD (c : Dev nD) (h : Fin 4) (p : Fin 3) (k : PG F) : PG F :=
  waitRecv (p, 3, h) <|
  .op (.load (rb p 3) (rC p h).toLoadRect (View.loadsAt_vmem (posC p))) fun r =>
  .op (.load mo (rS c p h).toLoadRect (View.loadsAt_vmem (posC p))) fun _ =>
  .op (.store mo (rS c p h) (pext p r) Finset.univ (View.stores_vmem_bits_univ (posC p) rfl) (.inl rfl)) fun _ => k

/-! ## The whole body -/

/-- The parts in order, and chunk and part together. -/
def parts : List (Fin 3) := [0, 1, 2]
def chunks : List (Fin 4 × Fin 3) :=
  [(0, 0), (0, 1), (0, 2), (1, 0), (1, 1), (1, 2), (2, 0), (2, 1), (2, 2), (3, 0), (3, 1), (3, 2)]
/-- The transfers of the first stage in the order of their sending, and those of a later stage. -/
def first : List Xf := [(0, 0, 0), (0, 0, 1), (0, 0, 2), (0, 0, 3), (1, 0, 0), (1, 0, 1), (1, 0, 2), (1, 0, 3), (2, 0, 0), (2, 0, 1), (2, 0, 2), (2, 0, 3)]
def later (w : Fin 4) : List Xf := chunks.map fun hp => (hp.2, w, hp.1)
/-- All transfers, in the order of their sending. -/
def sends : List Xf := first ++ later 1 ++ later 2 ++ later 3

/-- The body: the device reads its number, meets its neighbours at the barrier, and goes through the
    phases. -/
def flat : PG F :=
  .op .deviceId fun c =>
  barrier c <|
  parts.foldr (partA c) <|
  parts.foldr (partB c) <|
  chunks.foldr (fun hp => partC c 0 hp.1 hp.2) <|
  chunks.foldr (fun hp => partC c 1 hp.1 hp.2) <|
  chunks.foldr (fun hp => partC c 2 hp.1 hp.2) <|
  chunks.foldr (fun hp => partD c hp.1 hp.2) <|
  sends.foldr waitSend <|
  .ret ⟨⟩

/-- The printed body is that program. -/
theorem body_eq (t : Fin cfg0.N) : bodyAt0 (F := F) t = flat := by
  chain_rfl

end Cert.AllReduce

end
-- ==== Proof.Access.lean ====
/-
Loads and stores of owned memrefs, and a fold of like steps over a list.

`owns c m q X` says that core `c` holds the elements of the memref `m` and reads `X` there. The rules below
run a load or a store at the head of a program from that assertion, for any signature; `wp_foldr` runs a
program that repeats one piece for each element of a list.
-/
module

public import Idealize.ShloMosaic.Lib.Pipeline.Launch
public import Idealize.ShloMosaic.Lib.Pipeline.Kit
public import Idealize.ShloMosaic.Lib.Tactic

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Access

variable {nD : ℕ} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {cs : CoreSpace} {s : Shape} {e : EltTy} {α : Type}

local notation "𝕄" => MT nD τ sig Ix Val Name U Lvl

variable {Q : α → sProp (MT nD τ sig Ix Val Name U Lvl)}

/-- A load through a rectangle of a memref owned whole continues at the owned contents there. -/
theorem wp_load_whole {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun j => X (r.emb j)) Q)
        -∗ wp frame (wpE defs 𝒱 c bd) E (.op (.load m r hl) k) Q) := by
  unfold owns
  iintro ⟨%f, %hf, H⟩ Hk
  iapply (wp_load_rect 𝒱 c bd E (m := m) (r := r) (S := m.view.set) (q := q) (f := f)
    (by rw [View.set_slice]; exact View.setOn_subset_set _ _)) $$ H
  iintro H
  rw [show (m.access r).read Val f = fun j => X (r.emb j) from by subst hf; rfl]
  iapply Hk
  iexists f
  isplitr; · ipureintro; exact hf
  iexact H

/-- A load through the rectangle of an owned slice continues at the slice's contents. -/
theorem wp_load_slice {m : Memref sig c.2.kind cs s e} {r : Rect s} {hr : ∀ a, r.stride a = 1} {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
        -∗ wp frame (wpE defs 𝒱 c bd) E (.op (.load m r hl) k) Q) := by
  unfold owns
  iintro ⟨%f, %hf, H⟩ Hk
  iapply (wp_load_rect 𝒱 c bd E (m := m) (r := r) (S := (m.access r).set) (q := q) (f := f) (Finset.Subset.refl _)) $$ H
  iintro H
  rw [show (m.access r).read Val f = X from hf]
  iapply Hk
  iexists f
  isplitr; · ipureintro; exact hf
  iexact H

/-- A store through a rectangle of a memref owned whole writes there and leaves the rest. -/
theorem wp_store_whole {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((∀ Y : s.Idx → Val e, ⌜(∀ j, Y (r.emb j) = w j) ∧ ∀ y, y ∉ r.set → Y y = X y⌝ -∗ owns c m fullShare Y
          -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (S := m.view.set) (f := f)
    (by rw [View.setOn_univ, View.set_slice]; exact View.setOn_subset_set _ _)) $$ H
  iintro H
  iapply Hk $$ %(m.view.read Val ((m.access r).write Val f w Finset.univ)) [] [H]
  · ipureintro
    exact ⟨fun j => View.read_slice_write_emb r f w (Finset.mem_univ j), fun y hy => by
      subst hf; exact View.read_slice_write_of_not_mem r f w _ (by rwa [Rect.map_emb_univ])⟩
  iexists _
  isplitr; · ipureintro; rfl
  iexact H

/-- A store through the rectangle of an owned slice leaves it owned at what was stored. -/
theorem wp_store_slice {m : Memref sig c.2.kind cs s e} {r : Rect s} {hr : ∀ a, r.stride a = 1} {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (S := (m.access r).set) (f := f)
    (Finset.Subset.refl _)) $$ H
  iintro H
  iapply Hk
  iexists _
  isplitr; · ipureintro; exact View.read_write_univ f w
  iexact H

end Access

/-! ## A fold over a list -/

section Fold

variable {M : Type} [URA M] {ι : Type} {P : Type 1}

/-- `R` of each element of a list. -/
def each (R : ι → sProp M) (l : List ι) : sProp M := l.foldr (fun i r => iprop(R i ∗ r)) iprop(emp)

theorem each_cons (R : ι → sProp M) (i : ι) (l : List ι) : each R (i :: l) = iprop(R i ∗ each R l) := rfl

/-- On a list without repetitions, listing every element, it is the conjunction over the type. -/
theorem each_eq [Fintype ι] [DecidableEq ι] (R : ι → sProp M) {l : List ι} (hl : ∀ i, i ∈ l) (hn : l.Nodup) :
    each R l = bigSep Finset.univ R := by
  have h : ∀ l : List ι, l.Nodup → each R l = bigSep l.toFinset R := by
    intro l
    induction l with
    | nil => intro _; exact bigSep_empty.symm
    | cons i l ih =>
      intro hn
      rw [each_cons, ih (List.nodup_cons.mp hn).2, List.toFinset_cons,
        bigSep_insert (fun hi => (List.nodup_cons.mp hn).1 (List.mem_toFinset.mp hi))]
      rfl
  rw [h l hn]
  congr 1
  exact Finset.eq_univ_iff_forall.mpr fun i => List.mem_toFinset.mpr (hl i)

theorem each_mono {R R' : ι → sProp M} (h : ∀ i, R i ⊢ R' i) (l : List ι) : each R l ⊢ each R' l := by
  induction l with
  | nil => exact .rfl
  | cons i l ih => exact (sep_mono_left (h i)).trans (sep_mono_right ih)

theorem each_sep (R R' : ι → sProp M) (l : List ι) : each (fun i => iprop(R i ∗ R' i)) l ⊣⊢ iprop(each R l ∗ each R' l) := by
  induction l with
  | nil => exact sep_emp.symm
  | cons i l ih =>
    refine ⟨?_, ?_⟩
    · rw [each_cons, each_cons, each_cons]
      refine (sep_mono_right ih.1).trans ?_
      iintro ⟨⟨H, H'⟩, HL, HL'⟩
      isplitl [H HL]
      · isplitl [H] <;> iassumption
      · isplitl [H'] <;> iassumption
    · rw [each_cons, each_cons, each_cons]
      refine BIBase.Entails.trans ?_ (sep_mono_right ih.2)
      iintro ⟨⟨H, HL⟩, H', HL'⟩
      isplitl [H H']
      · isplitl [H] <;> iassumption
      · isplitl [HL] <;> iassumption

theorem each_append (R : ι → sProp M) (l l' : List ι) : each R (l ++ l') ⊣⊢ iprop(each R l ∗ each R l') := by
  induction l with
  | nil => exact emp_sep.symm
  | cons i l ih =>
    rw [List.cons_append, each_cons, each_cons]
    refine ⟨?_, ?_⟩
    · refine (sep_mono_right ih.1).trans ?_
      iintro ⟨H, HL, HL'⟩
      isplitl [H HL]
      · isplitl [H] <;> iassumption
      · iexact HL'
    · refine BIBase.Entails.trans ?_ (sep_mono_right ih.2)
      iintro ⟨⟨H, HL⟩, HL'⟩
      isplitl [H]; · iexact H
      isplitl [HL] <;> iassumption

theorem each_map {κ : Type} (f : κ → ι) (R : ι → sProp M) (l : List κ) : each R (l.map f) = each (fun i => R (f i)) l := by
  unfold each; rw [List.foldr_map]

/-- `R` of each element of each list. -/
theorem each_flatMap {κ : Type} (f : κ → List ι) (R : ι → sProp M) (l : List κ) :
    each R (l.flatMap f) ⊣⊢ each (fun i => each R (f i)) l := by
  induction l with
  | nil => exact .rfl
  | cons i l ih =>
    rw [List.flatMap_cons, each_cons]
    exact (each_append R _ _).trans ⟨sep_mono_right ih.1, sep_mono_right ih.2⟩

/-- The order of the list does not matter. -/
theorem each_perm (R : ι → sProp M) {l l' : List ι} (h : l.Perm l') : each R l ⊢ each R l' := by
  induction h with
  | nil => exact .rfl
  | cons i _ ih => exact sep_mono_right ih
  | swap i j l =>
    rw [each_cons, each_cons, each_cons, each_cons]
    iintro ⟨H, H', HL⟩
    isplitl [H']; · iexact H'
    isplitl [H] <;> iassumption
  | trans _ _ ih ih' => exact ih.trans ih'

/-- If piece `i` of a program turns `R i` and the state `S (i :: l)` into `R' i` and `S l`, whatever follows,
    the pieces of a list one after the other turn `R` of each and `S` of the list into `R'` of each and `S []`. -/
theorem wp_foldr (run : P → sProp M) (it : ι → P → P) (k : P) (R R' : ι → sProp M) (S : List ι → sProp M)
    (h : ∀ i l k, iprop(R i ∗ S (i :: l) ∗ (R' i -∗ S l -∗ run k)) ⊢ run (it i k)) (l : List ι) :
    iprop(each R l ∗ S l ∗ (each R' l -∗ S [] -∗ run k)) ⊢ run (l.foldr it k) := by
  induction l with
  | nil =>
    iintro ⟨-, HS, Hk⟩
    rw [List.foldr_nil]
    iapply Hk $$ [] HS
    unfold each; iempintro
  | cons i l ih =>
    rw [each_cons, List.foldr_cons]
    iintro ⟨⟨HR, HRs⟩, HS, Hk⟩
    iapply (h i l _)
    isplitl [HR]; · iexact HR
    isplitl [HS]; · iexact HS
    iintro HR' HS
    iapply ih $$ [HRs HS Hk HR']
    isplitl [HRs]; · iexact HRs
    isplitl [HS]; · iexact HS
    iintro HRs' HS
    iapply Hk $$ [HR' HRs'] HS
    rw [each_cons]
    isplitl [HR'] <;> iassumption

end Fold

end Cert.AllReduce

end
-- ==== Proof.Protocol.lean ====
/-
What the devices tell each other: values, semaphores, schedule and levels.

Values. `st xs ws p h w c` is, after `w` exchanges of chunk `h` of part `p`, the pair of the running sum
device `c` keeps (single precision) and of the copy of it `c` sends next (half precision). After no exchange
they are the chunk of the product for the half kept and of the product for the half sent away; each exchange
adds the neighbour's copy.

Protocol. Each device has a barrier semaphore and, per transfer, a send and a receive semaphore. By its
signal to a neighbour's barrier a device hands that neighbour the receive chunks the neighbour writes. A
transfer then carries the sender's chunk into the receiver's chunk; its receive semaphore hands the receiver
the chunk at the value sent, its send semaphore hands the sender its own chunk back. The barrier is at level
1, the receive semaphores of stage `w` at level `2 + w`: a device that waits at stage `w` still owes only
transfers of later stages.
-/
module

public import proofs.«01_k».proof.Proof.Flat
public import proofs.«01_k».proof.Proof.Access

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol: rounds whose duties are named by the axes of the cube; beside it the
    pipeline's own. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The axis of a transfer. -/
abbrev axX (i : Xf) : Fin 3 := ax i.1 i.2.1

/-! ## Values -/

section Values

variable (xs : Dev nD → Vec F S1024x128 .bf16) (ws : Dev nD → Vec F S128x1024 .bf16)

/-- Device `c`'s product for the half of part `p` it keeps. -/
def kept (c : Dev nD) (p : Fin 3) : Vec F (SH p) .f32 :=
  pprod p (fun j => xs c ((rXk c p).emb j)) (fun j => ws c ((rW p).emb j))

/-- Device `c`'s product for the half of part `p` it sends away, in half precision. -/
def sentH (c : Dev nD) (p : Fin 3) : Vec F (SH p) .bf16 :=
  pprodB p (fun j => xs c ((rXs c p).emb j)) (fun j => ws c ((rW p).emb j))

/-- The running sum of chunk `h` of part `p` on device `c` after `w` exchanges, and the copy of it sent next. -/
def st (p : Fin 3) (h : Fin 4) : ℕ → Dev nD → Vec F (SC p) .f32 × Vec F (SC p) .bf16
  | 0, c => (fun j => kept xs ws c p ((rC p h).emb j), fun j => sentH xs ws c p ((rC p h).emb j))
  | w + 1, c =>
    (psum p (st p h w c).1 (st p h w (nbr (ax p (Fin.ofNat 4 w)) c)).2,
     psumB p (st p h w c).1 (st p h w (nbr (ax p (Fin.ofNat 4 w)) c)).2)

/-- The running sum alone, -/
def acc (c : Dev nD) (p : Fin 3) (h : Fin 4) (w : ℕ) : Vec F (SC p) .f32 := (st xs ws p h w c).1
/-- and what transfer `i` of device `c` carries. -/
def snt (c : Dev nD) (i : Xf) : Vec F (SC i.1) .bf16 := (st xs ws i.1 i.2.2 i.2.1.val c).2

end Values

/-! ## Semaphores -/

/-- The semaphores of the protocol on a device: the barrier's, and per transfer the sender's (`false`) and
    the receiver's (`true`). -/
abbrev Cell : Type := Option (Bool × Xf)

def csem : Cell → SemLoc sig
  | none => .reg bsem
  | some (false, i) => .dma (ssem i)
  | some (true, i) => .dma (rsem i)

/-- The transfer of a place in a semaphore array. -/
def xfOf (n : ℕ) : Xf := (Fin.ofNat 3 (n / 16), Fin.ofNat 4 (n % 16 / 4), Fin.ofNat 4 (n % 4))

/-- Which semaphore of the protocol a semaphore is. -/
def decode : SemLoc sig → Option Cell
  | .reg s => if s = bsem then some none else none
  | .dma v => if v.val < 3 then none else if v.val < 51 then some (some (false, xfOf (v.val - 3))) else some (some (true, xfOf (v.val - 51)))

theorem ssem_val : ∀ i : Xf, (ssem i).val = 3 + sidx i := by decide +kernel
theorem rsem_val : ∀ i : Xf, (rsem i).val = 51 + sidx i := by decide +kernel
theorem sidx_lt (i : Xf) : sidx i < 48 := by
  obtain ⟨p, w, h⟩ := i
  show 16 * p.val + 4 * w.val + h.val < 48
  omega
theorem xfOf_sidx : ∀ i : Xf, xfOf (sidx i) = i := by decide +kernel

theorem decode_csem : ∀ k : Cell, decode (csem k) = some k
  | none => by unfold decode csem; dsimp only; rw [if_pos rfl]
  | some (false, i) => by
    have := sidx_lt i
    unfold decode csem; dsimp only
    rw [ssem_val, if_neg (by omega), if_pos (by omega), Nat.add_sub_cancel_left, xfOf_sidx]
  | some (true, i) => by
    unfold decode csem; dsimp only
    rw [rsem_val, if_neg (by omega), if_neg (by omega), Nat.add_sub_cancel_left, xfOf_sidx]

theorem csem_injective : Function.Injective csem := fun k k' h => by
  have := congrArg decode h
  rw [decode_csem, decode_csem] at this
  exact Option.some.inj this

/-- A semaphore of the protocol on a given device. -/
abbrev cell (ck : Dev nD × Cell) : GSem nD τ sig := ((ck.1 : Thread nD τ), csem ck.2)
abbrev barC (c : Dev nD) : GSem nD τ sig := ((c : Thread nD τ), .reg bsem)
abbrev sndC (c : Dev nD) (i : Xf) : GSem nD τ sig := ((c : Thread nD τ), .dma (ssem i))
abbrev rcvC (c : Dev nD) (i : Xf) : GSem nD τ sig := ((c : Thread nD τ), .dma (rsem i))

/-- The device and the semaphore of the protocol that a semaphore of the mesh is, if it is one. -/
def role (g : GSem nD τ sig) : Option (Dev nD × Cell) :=
  if g.1.2 = .tc then (decode g.2).map (fun k => (g.1.1, k)) else none

theorem role_cell (ck : Dev nD × Cell) : role (cell ck) = some ck := by
  unfold role
  rw [if_pos rfl, show decode (cell ck).2 = some ck.2 from decode_csem ck.2]
  rfl

theorem role_bar (c : Dev nD) : role (barC c) = some (c, none) := role_cell (c, none)
theorem role_snd (c : Dev nD) (i : Xf) : role (sndC c i) = some (c, some (false, i)) := role_cell (c, some (false, i))
theorem role_rcv (c : Dev nD) (i : Xf) : role (rcvC c i) = some (c, some (true, i)) := role_cell (c, some (true, i))

theorem cell_injective : Function.Injective cell := fun a b h => by
  have := congrArg role h
  rw [role_cell, role_cell] at this
  exact Option.some.inj this

/-- What a transfer adds to its two semaphores. -/
def N (i : Xf) : ℕ := (rbC i).view.dmaCredit
theorem N_pos (i : Xf) : 0 < N i := View.dmaCredit_pos _ (posC i.1)

theorem credit_rb (i : Xf) : (rbC i).view.dmaCredit = N i := rfl
theorem credit_sb : ∀ i : Xf, (sbC i).view.dmaCredit = N i := by decide +kernel

/-! ## The schedule -/

section Schedule

variable (xs : Dev nD → Vec F S1024x128 .bf16) (ws : Dev nD → Vec F S128x1024 .bf16)

/-- Device `d`'s receive chunk of transfer `i`, at any contents. -/
def room (d : Dev nD) (i : Xf) : sProp 𝕄 :=
  iprop(∃ X : (SC i.1).Idx → Elt F .bf16, ownsTc d (rbC i) fullShare X)

/-- What the neighbour along axis `a` hands device `c` by its barrier signal: its receive chunks that `c` writes. -/
def rooms (c : Dev nD) (a : Fin 3) : sProp 𝕄 :=
  bigSep Finset.univ fun i : Xf => if axX i = a then room (nbr a c) i else iprop(emp)

/-- A sent chunk, and a received one: the neighbour's. -/
def sentP (c : Dev nD) (i : Xf) : sProp 𝕄 := ownsTc c (sbC i) fullShare (snt xs ws c i)
def recvP (c : Dev nD) (i : Xf) : sProp 𝕄 := ownsTc c (rbC i) fullShare (snt xs ws (nbr (axX i) c) i)

omit [FloatOps F] in
instance room_storable (d : Dev nD) (i : Xf) : BI.Storable (upEmb : UEmb _ 𝕄) (room (F := F) d i) := by
  unfold room; infer_instance
omit [FloatOps F] in
instance rooms_storable (c : Dev nD) (a : Fin 3) : BI.Storable (upEmb : UEmb _ 𝕄) (rooms (F := F) c a) := by
  unfold rooms
  have : ∀ i : Xf, BI.Storable (upEmb : UEmb _ 𝕄) (if axX i = a then room (F := F) (nbr a c) i else iprop(emp)) := fun i => by
    split <;> infer_instance
  infer_instance
instance sentP_storable (c : Dev nD) (i : Xf) : BI.Storable (upEmb : UEmb _ 𝕄) (sentP (F := F) xs ws c i) := by
  unfold sentP; infer_instance
instance recvP_storable (c : Dev nD) (i : Xf) : BI.Storable (upEmb : UEmb _ 𝕄) (recvP (F := F) xs ws c i) := by
  unfold recvP; infer_instance

/-- One round of each semaphore: the barrier has one duty of one unit per axis; a transfer's semaphores have
    one duty of the transfer's credit. -/
def Rd : Rounds.Schedule (GSem nD τ sig) (Fin 3) 𝕄 where
  duties g r := if r = 0 then (match role g with | some (_, none) => Finset.univ | some (_, some _) => {0} | none => ∅) else ∅
  unitless _ := False
  amount g _ _ := match role g with | some (_, some (false, i)) => N i | some (_, some (true, i)) => N i | _ => 1
  payload g _ d := match role g with
    | some (c, none) => rooms c d
    | some (c, some (false, i)) => sentP xs ws c i
    | some (c, some (true, i)) => recvP xs ws c i
    | none => iprop(emp)
  amount_pos g _ _ _ := by
    split
    · exact N_pos _
    · exact N_pos _
    · exact Nat.one_pos

instance Rd_payload_storable (g : GSem nD τ sig) (r : ℕ) (d : Fin 3) :
    BI.Storable (upEmb : UEmb _ 𝕄) ((Rd (F := F) xs ws).payload g r d) := by
  unfold Rd
  dsimp only
  split <;> infer_instance

section At
variable (c : Dev nD) (i : Xf) (d : Fin 3)

theorem duties_bar : (Rd (F := F) xs ws).duties (barC c) 0 = Finset.univ := by
  dsimp only [Rd]; rw [if_pos rfl, role_bar]
theorem duties_snd : (Rd (F := F) xs ws).duties (sndC c i) 0 = {0} := by
  dsimp only [Rd]; rw [if_pos rfl, role_snd]
theorem duties_rcv : (Rd (F := F) xs ws).duties (rcvC c i) 0 = {0} := by
  dsimp only [Rd]; rw [if_pos rfl, role_rcv]
theorem duties_later (g : GSem nD τ sig) : ∀ r, 1 ≤ r → (Rd (F := F) xs ws).duties g r = ∅ := fun r hr => by
  dsimp only [Rd]; rw [if_neg (by omega)]

theorem amount_bar : (Rd (F := F) xs ws).amount (barC c) 0 d = 1 := by dsimp only [Rd]; rw [role_bar]
theorem amount_snd : (Rd (F := F) xs ws).amount (sndC c i) 0 d = N i := by dsimp only [Rd]; rw [role_snd]
theorem amount_rcv : (Rd (F := F) xs ws).amount (rcvC c i) 0 d = N i := by dsimp only [Rd]; rw [role_rcv]

theorem payload_bar : (Rd (F := F) xs ws).payload (barC c) 0 d = rooms c d := by dsimp only [Rd]; rw [role_bar]
theorem payload_snd : (Rd (F := F) xs ws).payload (sndC c i) 0 d = sentP xs ws c i := by dsimp only [Rd]; rw [role_snd]
theorem payload_rcv : (Rd (F := F) xs ws).payload (rcvC c i) 0 d = recvP xs ws c i := by dsimp only [Rd]; rw [role_rcv]

theorem expect_bar : (Rd (F := F) xs ws).expect (barC c) 0 = 3 := by
  unfold Schedule.expect Schedule.amountOf
  rw [duties_bar, Finset.sum_congr rfl fun d _ => amount_bar xs ws c d]
  rfl
theorem expect_snd : (Rd (F := F) xs ws).expect (sndC c i) 0 = N i := by
  unfold Schedule.expect Schedule.amountOf; rw [duties_snd, Finset.sum_singleton, amount_snd]
theorem expect_rcv : (Rd (F := F) xs ws).expect (rcvC c i) 0 = N i := by
  unfold Schedule.expect Schedule.amountOf; rw [duties_rcv, Finset.sum_singleton, amount_rcv]

theorem fin3 : ∀ a : Fin 3, a = 0 ∨ a = 1 ∨ a = 2 := by decide

/-- A conjunction over the axes, written out. -/
theorem over_axes (Φ : Fin 3 → sProp 𝕄) : bigSep Finset.univ Φ = iprop(Φ 0 ∗ Φ 1 ∗ Φ 2) :=
  bigSep_univ_eq_bigSepL [0, 1, 2] (by decide) (by decide) Φ

theorem sep_emp_eq (P : sProp 𝕄) : iprop(P ∗ emp) = P := Entails.antisymm sep_emp.1 sep_emp.2
theorem emp_sep_eq (P : sProp 𝕄) : iprop(emp ∗ P) = P := Entails.antisymm emp_sep.1 emp_sep.2

/-- A conjunction over the transfers is the conjunction over the axes of its members along each. -/
theorem deal_axes (Φ : Xf → sProp 𝕄) :
    bigSep Finset.univ Φ = bigSep Finset.univ fun a : Fin 3 => bigSep Finset.univ fun i : Xf => if axX i = a then Φ i else iprop(emp) := by
  rw [over_axes, ← bigSep_sep', ← bigSep_sep']
  refine bigSep_congr fun i _ => ?_
  rcases fin3 (axX i) with h | h | h <;> rw [h]
  · rw [if_pos rfl, if_neg (by decide), if_neg (by decide), sep_emp_eq, sep_emp_eq]
  · rw [if_neg (by decide), if_pos rfl, if_neg (by decide), sep_emp_eq, emp_sep_eq]
  · rw [if_neg (by decide), if_neg (by decide), if_pos rfl, emp_sep_eq, emp_sep_eq]

/-- The receive chunks all three neighbours hand over are, per transfer, the chunk it writes. -/
theorem rest_bar : bigSep ((Rd (F := F) xs ws).duties (barC c) 0 \ ∅) (fun d => (Rd (F := F) xs ws).payload (barC c) 0 d)
    = bigSep Finset.univ fun i : Xf => room (F := F) (nbr (axX i) c) i := by
  rw [Finset.sdiff_empty, duties_bar, bigSep_congr fun d _ => payload_bar xs ws c d,
    deal_axes fun i : Xf => room (F := F) (nbr (axX i) c) i]
  refine bigSep_congr fun a _ => bigSep_congr fun i _ => ?_
  by_cases h : axX i = a
  · rw [if_pos h, if_pos h, h]
  · rw [if_neg h, if_neg h]
theorem rest_snd : bigSep ((Rd (F := F) xs ws).duties (sndC c i) 0 \ ∅) (fun d => (Rd (F := F) xs ws).payload (sndC c i) 0 d) = sentP xs ws c i := by
  rw [Finset.sdiff_empty, duties_snd, bigSep_singleton, payload_snd]
theorem rest_rcv : bigSep ((Rd (F := F) xs ws).duties (rcvC c i) 0 \ ∅) (fun d => (Rd (F := F) xs ws).payload (rcvC c i) 0 d) = recvP xs ws c i := by
  rw [Finset.sdiff_empty, duties_rcv, bigSep_singleton, payload_rcv]

end At

/-- The receive chunks of a device, dealt to the three neighbours that write them. -/
theorem rooms_deal (c : Dev nD) :
    (bigSep Finset.univ fun i : Xf => room (F := F) c i) = bigSep Finset.univ fun a : Fin 3 => rooms (F := F) (nbr a c) a := by
  rw [deal_axes fun i : Xf => room (F := F) c i]
  refine bigSep_congr fun a _ => bigSep_congr fun i _ => ?_
  rw [nbr_nbr]

end Schedule

/-! ## What a device owes, and the levels -/

/-- The receive credits of the transfers of a list, owed to the neighbours. -/
def Om (c : Dev nD) (l : List Xf) : CellTallies nD τ sig Unit :=
  l.foldr (fun i O => O + tallyAt (rcvC (nbr (axX i) c) i) () (N i)) 0

theorem Om_cons (c : Dev nD) (i : Xf) (l : List Xf) : Om c (i :: l) = Om c l + tallyAt (rcvC (nbr (axX i) c) i) () (N i) := rfl

/-- At launch a device owes all its transfers and a signal to each neighbour's barrier. -/
def O₂ (c : Dev nD) : CellTallies nD τ sig Unit := Om c sends + tallyAt (barC (nbr 2 c)) () 1
def O₁ (c : Dev nD) : CellTallies nD τ sig Unit := O₂ c + tallyAt (barC (nbr 1 c)) () 1
def O₀ (c : Dev nD) : CellTallies nD τ sig Unit := O₁ c + tallyAt (barC (nbr 0 c)) () 1

def L (g : GSem nD τ sig) : Finset Unit := if g.1.2 = .tc then {()} else ∅
def lv (g : GSem nD τ sig) (_ : Unit) : ℕ :=
  match role g with
  | some (_, none) => 1
  | some (_, some (true, i)) => 2 + i.2.1.val
  | _ => 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _

theorem lv_bar (c : Dev nD) : lv (barC c) () = 1 := by unfold lv; rw [role_bar]
theorem lv_rcv (c : Dev nD) (i : Xf) : lv (rcvC c i) () = 2 + i.2.1.val := by unfold lv; rw [role_rcv]
/-- A staging semaphore is at level 0. -/
theorem lv_stage (c : Dev nD) (q : DmaSem sig) (hq : q.val < 3) : lv ((c : Thread nD τ), .dma q) () = 0 := by
  have : role ((c : Thread nD τ), .dma q) = none := by
    unfold role; rw [if_pos rfl]; unfold decode; dsimp only; rw [if_pos hq]; rfl
  unfold lv; rw [this]

theorem tally_pos {g g' : GSem nD τ sig} {k : ℕ} {u : Unit} (h : 0 < tallyAt g () k g' u) : g' = g := by
  rw [tallyAt_apply] at h
  by_contra hn
  rw [if_neg fun h' => hn h'.1] at h
  exact Nat.lt_irrefl 0 h

theorem Om_pos {c : Dev nD} {l : List Xf} {g : GSem nD τ sig} {u : Unit} (h : 0 < Om c l g u) :
    ∃ i ∈ l, g = rcvC (nbr (axX i) c) i := by
  induction l with
  | nil => exact absurd h (Nat.lt_irrefl 0)
  | cons i l ih =>
    rw [Om_cons, Pi.add_apply, Finsupp.add_apply] at h
    rcases Nat.eq_zero_or_pos (Om c l g u) with h0 | h0
    · rw [h0, Nat.zero_add] at h
      exact ⟨i, List.mem_cons_self, tally_pos h⟩
    · obtain ⟨j, hj, hg⟩ := ih h0
      exact ⟨j, List.mem_cons_of_mem _ hj, hg⟩

theorem O₀_pos {c : Dev nD} {g : GSem nD τ sig} {u : Unit} (h : 0 < O₀ c g u) :
    (∃ i, g = rcvC (nbr (axX i) c) i) ∨ ∃ a, g = barC (nbr a c) := by
  unfold O₀ O₁ O₂ at h
  rw [Pi.add_apply, Finsupp.add_apply, Pi.add_apply, Finsupp.add_apply, Pi.add_apply, Finsupp.add_apply] at h
  rcases Nat.eq_zero_or_pos (Om c sends g u) with h0 | h0
  · rcases Nat.eq_zero_or_pos (tallyAt (barC (nbr 2 c)) () 1 g u) with h2 | h2
    · rcases Nat.eq_zero_or_pos (tallyAt (barC (nbr 1 c)) () 1 g u) with h1 | h1
      · rw [h0, h1, h2] at h
        exact Or.inr ⟨0, tally_pos (by simpa using h)⟩
      · exact Or.inr ⟨1, tally_pos h1⟩
    · exact Or.inr ⟨2, tally_pos h2⟩
  · obtain ⟨i, -, hi⟩ := Om_pos h0
    exact Or.inl ⟨i, hi⟩

/-- A device that owes only transfers above a semaphore's level may wait on it. -/
theorem mayWait_Om (c : Dev nD) (sm : SemLoc sig) (l : List Xf) (n : ℕ) (hn : lv ((c : Thread nD τ), sm) () ≤ n)
    (hl : ∀ i ∈ l, n < 2 + i.2.1.val) : (levAts L lv : sProp 𝕄) ⊢ MayWait (c : Thread nD τ) sm () (Om c l) :=
  MayOwe.of_cut (L := L) (lev := lv) n (fun p hp => by rw [Finset.mem_singleton.mp hp]; exact L_tc _ _)
    (fun g u hg => by obtain ⟨i, -, rfl⟩ := Om_pos hg; exact L_tc _ _)
    (fun p hp => by rw [Finset.mem_singleton.mp hp]; exact hn)
    (fun g u hg => by obtain ⟨i, hi, rfl⟩ := Om_pos hg; rw [lv_rcv]; exact hl i hi)

/-- The pipeline's waits are at level 0, below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _)
      (fun g u hg => by rcases O₀_pos hg with ⟨i, rfl⟩ | ⟨a, rfl⟩ <;> exact L_tc _ _)
      (fun p hp => by rw [Finset.mem_singleton.mp hp]; exact (lv_stage c q hq).le)
      (fun g u hg => by
        rcases O₀_pos hg with ⟨i, rfl⟩ | ⟨a, rfl⟩
        · rw [lv_rcv]; omega
        · rw [lv_bar]; omega)
  · rw [MayWait_zero]; iintro -; iempintro

end Cert.AllReduce

end
-- ==== Proof.Pieces.lean ====
/-
The pieces of the body, run one by one.

`know` are the persistent facts a device starts from: the invariants of all semaphores of the protocol, that
each is at its first round, and the levels. Each theorem below runs one piece of `Flat.lean` at the head of
a program: from the chunks and tokens the piece uses to those it leaves, with the list of transfers still
owed (`owing`) shortened by what it sends.
-/
module

public import proofs.«01_k».proof.Proof.Protocol

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)
variable (K : Dev nD × Cell → ℕ) (c : Dev nD)

/-- What every device knows: the invariants, the first rounds and the levels. -/
def know : sProp 𝕄 :=
  iprop((bigSep Finset.univ fun ck : Dev nD × Cell => cellInv ER (Rd xs ws) (K ck) (cell ck))
    ∗ (bigSep Finset.univ fun ck : Dev nD × Cell => reached ER (cell ck) 0) ∗ levAts L lv)

instance know_persistent : BI.Persistent (know (F := F) xs ws K) := by unfold know; infer_instance

theorem know_inv (ck : Dev nD × Cell) : know (F := F) xs ws K ⊢ cellInv ER (Rd xs ws) (K ck) (cell ck) := by
  have h : (bigSep Finset.univ fun ck : Dev nD × Cell => (cellInv ER (Rd xs ws) (K ck) (cell ck) : sProp 𝕄)) ⊢ cellInv ER (Rd xs ws) (K ck) (cell ck) :=
    bigSep_elim (Finset.mem_univ ck)
  unfold know
  iintro ⟨#H, -, -⟩
  iapply h; iexact H
theorem know_reached (ck : Dev nD × Cell) : know (F := F) xs ws K ⊢ reached ER (cell ck) 0 := by
  have h : (bigSep Finset.univ fun ck : Dev nD × Cell => (reached ER (cell ck) 0 : sProp 𝕄)) ⊢ reached ER (cell ck) 0 :=
    bigSep_elim (Finset.mem_univ ck)
  unfold know
  iintro ⟨-, #H, -⟩
  iapply h; iexact H
theorem inv_bar (d : Dev nD) : know (F := F) xs ws K ⊢ cellInv ER (Rd xs ws) (K (d, none)) (barC d) := know_inv xs ws K (d, none)
theorem inv_snd (d : Dev nD) (i : Xf) : know (F := F) xs ws K ⊢ cellInv ER (Rd xs ws) (K (d, some (false, i))) (sndC d i) :=
  know_inv xs ws K (d, some (false, i))
theorem inv_rcv (d : Dev nD) (i : Xf) : know (F := F) xs ws K ⊢ cellInv ER (Rd xs ws) (K (d, some (true, i))) (rcvC d i) :=
  know_inv xs ws K (d, some (true, i))
theorem reached_bar (d : Dev nD) : know (F := F) xs ws K ⊢ reached ER (barC d) 0 := know_reached xs ws K (d, none)
theorem reached_snd (d : Dev nD) (i : Xf) : know (F := F) xs ws K ⊢ reached ER (sndC d i) 0 := know_reached xs ws K (d, some (false, i))
theorem reached_rcv (d : Dev nD) (i : Xf) : know (F := F) xs ws K ⊢ reached ER (rcvC d i) 0 := know_reached xs ws K (d, some (true, i))
theorem know_lev : know (F := F) xs ws K ⊢ levAts L lv := by
  unfold know
  iintro ⟨-, -, #H⟩
  iexact H

/-- The body's program, run on device `c` to the end. -/
abbrev run (Q : PUnit → sProp 𝕄) (k : PG F) : sProp 𝕄 :=
  wp Idealize.ShloMosaic.frame (wpE (defs₀ (F := F)) Variants.none (c : Thread nD τ) none) Set.univ k Q

variable {Q : PUnit → sProp (MT nD τ sig Unit (Elt F) ℕ UU ℕ)}

/-- The tokens for the two duties a transfer pays. -/
def tokS (i : Xf) : sProp 𝕄 :=
  iprop(dutyTok ER (sndC c i) 0 0 ∗ dutyTok ER (rcvC (nbr (axX i) c) i) 0 0)
/-- A receive semaphore still to be waited on, -/
def awaits (i : Xf) : sProp 𝕄 := iprop(cred (tallyAt (rcvC c i) () (N i)) ∗ atPos ER (rcvC c i) 0 ∅ 0)
/-- and waited on: the semaphore is zero again and the neighbour's chunk is here. -/
def arrived (i : Xf) : sProp 𝕄 := iprop(semVal (rcvC c i) 0 ∗ recvP xs ws c i)
/-- A transfer under way, -/
def leaving (i : Xf) : sProp 𝕄 := cred (tallyAt (sndC c i) () (N i))
/-- and gone: the semaphore is zero again and the chunk sent is back. -/
def gone (i : Xf) : sProp 𝕄 := iprop(semVal (sndC c i) 0 ∗ sentP xs ws c i)
/-- The device still owes the transfers of the list. -/
def owing (l : List Xf) : sProp 𝕄 := iprop(∃ W, owes (c : Thread nD τ) (Om c l) W)

/-! ## Sending and waiting -/

/-- The transfer rule at the protocol's cells, for a device `n` that is the neighbour. -/
theorem send_rule (i : Xf) (n : Dev nD) (hn : n = nbr (axX i) c) (l : List Xf) (k : PG F)
    {hsc : (rbC i).view.ref.isScScratch = false} {hsrc : (sbC i).view.WordExact} {hdst : (rbC i).view.WordExact}
    {hsem : DmaTarget.Typed .vmem (.dma (rsem i)) (.remote (Dev.tc n : Thread nD τ) (rbC i) (.dma (ssem i)) hsc)} :
    iprop(know xs ws K ∗ tokS c i ∗ room (F := F) (nbr (axX i) c) i ∗ sentP xs ws c i ∗ owing (F := F) c (i :: l))
      ⊢ iprop((leaving (F := F) c i -∗ owing (F := F) c l -∗ run c Q k)
          -∗ run c Q (.op (.enqueueDma (sbC i) (.remote (Dev.tc n : Thread nD τ) (rbC i) (.dma (ssem i)) hsc) (.dma (rsem i)) hsrc hdst hsem) fun _ => k)) := by
  subst hn
  unfold tokS room sentP ownsTc owns owing leaving
  iintro ⟨#HK, ⟨HtS, HtR⟩, ⟨%X, %fd, %hfd, Hd⟩, ⟨%fs, %hfs, Hs⟩, ⟨%W, HO⟩⟩ Hk
  iapply (Rounds.wp_send_pointsTo Variants.none ER (Rd xs ws) (c : Thread nD τ) none (κ₁ := K (c, some (false, i))) (κ₂ := K (nbr (axX i) c, some (true, i)))
    (r₁ := 0) (r₂ := 0) (d₁ := 0) (d₂ := 0) (fd := fd) (fs := fs) (q := fullShare)
    (sS := .dma (ssem i)) (sem := .dma (rsem i))
    (by rw [duties_snd]; exact Finset.mem_singleton_self _)
    (by rw [duties_rcv]; exact Finset.mem_singleton_self _)
    () () (N i) rfl (amount_snd xs ws c i 0) (amount_rcv xs ws (nbr (axX i) c) i 0) (Om c l) (Om_cons c i l) (W := W)
    (by
      rw [payload_snd]; unfold sentP ownsTc owns
      iintro H; iexists fs; isplitr; · ipureintro; exact hfs
      iexact H)
    (by
      rw [payload_rcv]; unfold recvP ownsTc owns
      iintro H; iexists ((rbC i).view.write (Elt F) fd ((sbC i).view.read (Elt F) fs) Finset.univ); isplitr
      · ipureintro; exact (View.read_write_univ fd _).trans (by rw [nbr_nbr]; exact hfs)
      iexact H)) $$ [Hs Hd HO HtS HtR]
  · isplitr; · iapply (inv_snd xs ws K c i); iexact HK
    isplitr; · iapply (inv_rcv xs ws K (nbr (axX i) c) i); iexact HK
    isplitl [Hs]; · iexact Hs
    isplitl [Hd]; · iexact Hd
    isplitl [HO]; · iexact HO
    isplitl [HtS]; · iexact HtS
    isplitr; · iapply (reached_snd xs ws K c i); iexact HK
    isplitl [HtR]; · iexact HtR
    iapply (reached_rcv xs ws K (nbr (axX i) c) i); iexact HK
  iintro ⟨Hc, HO⟩
  iapply Hk $$ Hc
  iexists W; iexact HO

/-- Sending transfer `i`. -/
theorem run_send (i : Xf) (l : List Xf) (k : PG F) :
    iprop(know xs ws K ∗ tokS c i ∗ room (F := F) (nbr (axX i) c) i ∗ sentP xs ws c i ∗ owing (F := F) c (i :: l))
      ⊢ iprop((leaving (F := F) c i -∗ owing (F := F) c l -∗ run c Q k) -∗ run c Q (sendOp c i k)) :=
  send_rule xs ws K c i _ (Fin.ext (devN_eq c i.2.1 i.2.2 i.1)) l k

/-- Waiting for the arrival of transfer `i`, while only transfers of later stages are owed. -/
theorem run_recv (i : Xf) (l : List Xf) (hl : ∀ j ∈ l, i.2.1.val < j.2.1.val) (k : PG F) :
    iprop(know xs ws K ∗ awaits (F := F) c i ∗ owing (F := F) c l)
      ⊢ iprop((arrived xs ws c i -∗ owing (F := F) c l -∗ run c Q k) -∗ run c Q (waitRecv i k)) := by
  unfold awaits owing arrived
  iintro ⟨#HK, ⟨Hc, Hat⟩, ⟨%W, HO⟩⟩ Hk
  unfold waitRecv
  iapply (Rounds.wp_wait_rest_token Variants.none ER (Rd xs ws) (c : Thread nD τ) none (κ := K (c, some (true, i))) (sm := .dma (rsem i))
      (wpE_waitDma2_eq Variants.none (c : Thread nD τ) none Set.univ) (Set.mem_univ _) () (O := Om c l) (W := W) (R := 0) (m := 0) (T := ∅)
      (by rw [expect_rcv, Nat.zero_add]; rfl)) $$ [Hc HO Hat]
  · isplitr; · iapply (inv_rcv xs ws K c i); iexact HK
    isplitl [Hc]; · iexact Hc
    isplitl [HO]; · iexact HO
    isplitr
    · iapply (mayWait_Om c (.dma (rsem i)) l (2 + i.2.1.val) (lv_rcv c i).le fun j hj => by have := hl j hj; omega)
      iapply (know_lev xs ws K); iexact HK
    iexact Hat
  iintro ⟨HO, Hat, -, Hpay⟩
  ihave Hp := (Entails.of_eq (rest_rcv xs ws c i)) $$ Hpay
  imod (Rounds.cell_close ER (Rd xs ws) (Set.mem_univ (K (c, some (true, i)))) (fun h => h) (R := 0 + 1) (duties_later xs ws (rcvC c i))) $$ [Hat] with Hz
  · isplitr; · iapply (inv_rcv xs ws K c i); iexact HK
    iexact Hat
  iapply Hk $$ [Hz Hp] [HO]
  · isplitl [Hz] <;> iassumption
  · iexists _; iexact HO

/-- Waiting until transfer `i` has left, when nothing is owed. -/
theorem run_gone (i : Xf) (k : PG F) :
    iprop(know xs ws K ∗ (leaving (F := F) c i ∗ atPos ER (sndC c i) 0 ∅ 0) ∗ owing (F := F) c [])
      ⊢ iprop((gone xs ws c i -∗ owing (F := F) c [] -∗ run c Q k) -∗ run c Q (waitSend i k)) := by
  unfold leaving owing gone
  iintro ⟨#HK, ⟨Hc, Hat⟩, ⟨%W, HO⟩⟩ Hk
  unfold waitSend
  iapply (Rounds.wp_wait_rest_token Variants.none ER (Rd xs ws) (c : Thread nD τ) none (κ := K (c, some (false, i))) (sm := .dma (ssem i))
      (k' := (sbC i).view.dmaCredit)
      (wpE_waitDma2_eq Variants.none (c : Thread nD τ) none Set.univ) (Set.mem_univ _) () (O := Om c []) (W := W) (R := 0) (m := 0) (T := ∅)
      (by rw [expect_snd, Nat.zero_add]; exact credit_sb i)) $$ [Hc HO Hat]
  · isplitr; · iapply (inv_snd xs ws K c i); iexact HK
    isplitl [Hc]; · rw [credit_sb]; iexact Hc
    isplitl [HO]; · iexact HO
    isplitr
    · rw [show Om c [] = 0 from rfl, MayWait_zero]; iempintro
    iexact Hat
  iintro ⟨HO, Hat, -, Hpay⟩
  ihave Hp := (Entails.of_eq (rest_snd xs ws c i)) $$ Hpay
  imod (Rounds.cell_close ER (Rd xs ws) (Set.mem_univ (K (c, some (false, i)))) (fun h => h) (R := 0 + 1) (duties_later xs ws (sndC c i))) $$ [Hat] with Hz
  · isplitr; · iapply (inv_snd xs ws K c i); iexact HK
    iexact Hat
  iapply Hk $$ [Hz Hp] [HO]
  · isplitl [Hz] <;> iassumption
  · iexists _; iexact HO

/-! ## The barrier -/

/-- One barrier signal, to the neighbour `n` along axis `a`. -/
theorem signal_rule (a : Fin 3) (n : Dev nD) (hn : n = nbr a c) (O : CellTallies nD τ sig Unit) (W : Waits sig Unit) (k : PG F) :
    iprop(know xs ws K ∗ dutyTok ER (barC (nbr a c)) 0 a ∗ rooms (F := F) (nbr a c) a
        ∗ owes (c : Thread nD τ) (O + tallyAt (barC (nbr a c)) () 1) W)
      ⊢ iprop((owes (c : Thread nD τ) O W -∗ run c Q k)
          -∗ run c Q (.op (.semSignal ((n : Dev nD), Proc.tc) bsem (1#32).toInt) fun _ => k)) := by
  subst hn
  iintro ⟨#HK, Ht, Hr, HO⟩ Hk
  iapply (Rounds.wp_signal Variants.none ER (Rd xs ws) (c : Thread nD τ) none (dst := (nbr a c : Thread nD τ)) (κ := K (nbr a c, none))
      (d := a) (by rw [duties_bar]; exact Finset.mem_univ _)
      ((amount_bar xs ws (nbr a c) a).trans (by decide)) () O rfl) $$ [HO Ht Hr]
  · isplitr; · iapply (inv_bar xs ws K (nbr a c)); iexact HK
    isplitl [HO]; · iexact HO
    isplitl [Ht]; · iexact Ht
    isplitl [Hr]; · rw [payload_bar]; iexact Hr
    iapply (reached_bar xs ws K (nbr a c)); iexact HK
  iexact Hk

/-- The barrier: the device hands out its receive chunks and is handed those it writes. -/
theorem run_barrier (k : PG F) :
    iprop(know xs ws K ∗ (bigSep Finset.univ fun i : Xf => room (F := F) c i)
        ∗ (bigSep Finset.univ fun a : Fin 3 => dutyTok ER (barC (nbr a c)) 0 a)
        ∗ cred (tallyAt (barC c) () 3) ∗ atPos ER (barC c) 0 ∅ 0 ∗ (∃ W, owes (c : Thread nD τ) (O₀ c) W))
      ⊢ iprop((semVal (barC c) 0 -∗ (bigSep Finset.univ fun i : Xf => room (F := F) (nbr (axX i) c) i) -∗ owing (F := F) c sends -∗ run c Q k)
          -∗ run c Q (barrier c k)) := by
  rw [rooms_deal, over_axes, over_axes]
  iintro ⟨#HK, ⟨Hr0, Hr1, Hr2⟩, ⟨Ht0, Ht1, Ht2⟩, Hc, Hat, ⟨%W, HO⟩⟩ Hk
  unfold barrier
  iapply (signal_rule xs ws K c 0 _ (Fin.ext (devB_eq c 0)) (O₁ c) W _) $$ [Ht0 Hr0 HO]
  · isplitr; · iexact HK
    isplitl [Ht0]; · iexact Ht0
    isplitl [Hr0]; · iexact Hr0
    iexact HO
  iintro HO
  iapply (signal_rule xs ws K c 1 _ (Fin.ext (devB_eq c 1)) (O₂ c) W _) $$ [Ht1 Hr1 HO]
  · isplitr; · iexact HK
    isplitl [Ht1]; · iexact Ht1
    isplitl [Hr1]; · iexact Hr1
    iexact HO
  iintro HO
  iapply (signal_rule xs ws K c 2 _ (Fin.ext (devB_eq c 2)) (Om c sends) W _) $$ [Ht2 Hr2 HO]
  · isplitr; · iexact HK
    isplitl [Ht2]; · iexact Ht2
    isplitl [Hr2]; · iexact Hr2
    iexact HO
  iintro HO
  iapply (Rounds.wp_wait_rest_token Variants.none ER (Rd xs ws) (c : Thread nD τ) none (κ := K (c, none)) (sm := .reg bsem)
      (wpE_semWait_eq Variants.none (c : Thread nD τ) none Set.univ) (Set.mem_univ _) () (O := Om c sends) (W := W) (R := 0) (m := 0) (T := ∅)
      (by rw [expect_bar]; decide)) $$ [Hc HO Hat]
  · isplitr; · iapply (inv_bar xs ws K c); iexact HK
    isplitl [Hc]; · iexact Hc
    isplitl [HO]; · iexact HO
    isplitr
    · iapply (mayWait_Om c (.reg bsem) sends 1 (lv_bar c).le fun j hj => by omega)
      iapply (know_lev xs ws K); iexact HK
    iexact Hat
  iintro ⟨HO, Hat, -, Hpay⟩
  ihave Hp := (Entails.of_eq (rest_bar xs ws c)) $$ Hpay
  imod (Rounds.cell_close ER (Rd xs ws) (Set.mem_univ (K (c, none))) (fun h => h) (R := 0 + 1) (duties_later xs ws (barC c))) $$ [Hat] with Hz
  · isplitr; · iapply (inv_bar xs ws K c); iexact HK
    iexact Hat
  iapply Hk $$ Hz Hp [HO]
  unfold owing
  iexists _; iexact HO

end Cert.AllReduce

end
-- ==== Proof.Regions.lean ====
/-
How the buffers are cut into chunks.

Half a part is its four chunks of 128 rows; the result is twenty-four tiles, one per part, half and chunk.
Each family of rectangles is disjoint and covers its shape. `glue` is the function on a shape whose
restriction to each rectangle of such a family is a given one.
-/
module

public import proofs.«01_k».proof.Proof.Flat
public import Idealize.ShloMosaic.Lib.Pipeline.Launch

@[expose] public section

noncomputable section

namespace Cert.AllReduce

open Cert.KernelIdeal Cert.KernelIdeal.Gen
open Idealize.ShloMosaic Idealize.ShloMosaic.TcCoe

/-! ## Gluing -/

/-- The function whose value at the place of index `j` of rectangle `t` is `V t j`. -/
def glue {s : Shape} {α T : Type} [Nonempty α] (r : T → Rect s) (V : (t : T) → (r t).shape.Idx → α) (y : s.Idx) : α :=
  Classical.epsilon fun v => ∃ (t : T) (j : (r t).shape.Idx), (r t).emb j = y ∧ V t j = v

theorem mem_of_emb {s : Shape} (r : Rect s) (j : r.shape.Idx) : r.emb j ∈ r.set := by
  rw [← Rect.map_emb_univ]; exact Finset.mem_map_of_mem _ (Finset.mem_univ j)

theorem glue_emb {s : Shape} {α T : Type} [Nonempty α] (r : T → Rect s) (V : (t : T) → (r t).shape.Idx → α)
    (hd : ∀ t t', t ≠ t' → Disjoint (r t).set (r t').set) (t : T) (j : (r t).shape.Idx) : glue r V ((r t).emb j) = V t j := by
  have h : ∃ v, ∃ (t' : T) (j' : (r t').shape.Idx), (r t').emb j' = (r t).emb j ∧ V t' j' = v := ⟨_, t, j, rfl, rfl⟩
  obtain ⟨t', j', he, hv⟩ := Classical.epsilon_spec h
  have ht : t' = t := by
    by_contra hn
    exact Finset.disjoint_left.mp (hd t' t hn) (mem_of_emb (r t') j') (he ▸ mem_of_emb (r t) j)
  subst ht
  rw [(r t').emb.injective he] at hv
  exact hv.symm

/-! ## Half a part and its chunks -/

theorem rH_emb (p : Fin 3) (j : (SH p).Idx) : (rH p).emb j = j := by
  refine Rect.emb_eq_of_coords _ _ _ fun a => ?_
  show (j a).val = (![0, 0] : Fin 2 → ℕ) a + 1 * (j a).val
  fin_cases a
  · exact (by omega : ∀ n : ℕ, n = 0 + 1 * n) _
  · exact (by omega : ∀ n : ℕ, n = 0 + 1 * n) _

theorem mem_rC {p : Fin 3} {h : Fin 4} {y : (SH p).Idx} :
    y ∈ (rC p h).set ↔ 128 * h.val ≤ (y (0 : Fin 2)).val ∧ (y (0 : Fin 2)).val < 128 * h.val + 128 := by
  rw [Rect.mem_set_unit]
  constructor
  · intro hy; exact hy (0 : Fin 2)
  · intro hy
    refine Fin.forall_fin_two.mpr ⟨hy, Nat.zero_le _, ?_⟩
    show (y (1 : Fin 2)).val < 0 + C p
    rw [Nat.zero_add]; exact (y (1 : Fin 2)).isLt

theorem rC_disj (p : Fin 3) (h h' : Fin 4) (hn : h ≠ h') : Disjoint (rC p h).set (rC p h').set := by
  refine Finset.disjoint_left.mpr fun y hy hy' => hn ?_
  rw [mem_rC] at hy hy'
  exact Fin.ext (by omega)

theorem rC_cover (p : Fin 3) : (Finset.univ : Finset (Fin 4)).biUnion (fun h => (rC p h).set) = Finset.univ := by
  refine Finset.eq_univ_iff_forall.mpr fun y => ?_
  have hy : (y (0 : Fin 2)).val < 512 := (y (0 : Fin 2)).isLt
  exact Finset.mem_biUnion.mpr ⟨⟨(y (0 : Fin 2)).val / 128, by omega⟩, Finset.mem_univ _, mem_rC.mpr ⟨by
    show 128 * ((y (0 : Fin 2)).val / 128) ≤ _; omega, by show _ < 128 * ((y (0 : Fin 2)).val / 128) + 128; omega⟩⟩

/-! ## The result and its tiles -/

/-- The first row of a half: of the half sent away (`true`) or the half kept (`false`). -/
def half (b : Bool) (p : Fin 3) (c : Fin 8) : ℕ := if b then send p c else keep p c

theorem half_cases : ∀ (p : Fin 3) (c : Fin 8), (half false p c = 0 ∧ half true p c = 512) ∨ (half false p c = 512 ∧ half true p c = 0) := by
  decide

/-- A tile of the result: half `b`, chunk `h`, part `p`. -/
abbrev Tile : Type := Bool × Fin 4 × Fin 3

def offT (c : Dev nD) (t : Tile) : Fin 2 → ℕ := if t.1 then offS c t.2.2 t.2.1 else offK c t.2.2 t.2.1

theorem offT_eq (c : Dev nD) (t : Tile) : offT c t = ![half t.1 t.2.2 c + 128 * t.2.1.val, c0 t.2.2] := by
  obtain ⟨b, h, p⟩ := t
  cases b
  · exact offK_eq c p h
  · exact offS_eq c p h

theorem offT_inb (c : Dev nD) (t : Tile) : ∀ a, offT c t a + (SC t.2.2).size a ≤ S1024x1024.size a := by
  obtain ⟨b, h, p⟩ := t
  cases b
  · exact offK_inb c p h
  · exact offS_inb c p h

abbrev rT (c : Dev nD) (t : Tile) : Rect S1024x1024 := Rect.unit (s := S1024x1024) (offT c t) (SC t.2.2).size (offT_inb c t)

theorem mem_rT {c : Dev nD} {t : Tile} {y : S1024x1024.Idx} :
    y ∈ (rT c t).set ↔ (half t.1 t.2.2 c + 128 * t.2.1.val ≤ (y (0 : Fin 2)).val ∧ (y (0 : Fin 2)).val < half t.1 t.2.2 c + 128 * t.2.1.val + 128)
      ∧ c0 t.2.2 ≤ (y (1 : Fin 2)).val ∧ (y (1 : Fin 2)).val < c0 t.2.2 + C t.2.2 := by
  rw [Rect.mem_set_unit, offT_eq]
  exact Fin.forall_fin_two

/-- A column belongs to one part. -/
theorem part_unique {p p' : Fin 3} {n : ℕ} (h : c0 p ≤ n ∧ n < c0 p + C p) (h' : c0 p' ≤ n ∧ n < c0 p' + C p') : p = p' := by
  revert h h'
  fin_cases p <;> fin_cases p' <;> intro h h' <;> first | rfl | (exfalso; simp [c0, C] at h h'; omega)

theorem part_exists {n : ℕ} (hn : n < 1024) : ∃ p : Fin 3, c0 p ≤ n ∧ n < c0 p + C p := by
  by_cases h1 : n < 384
  · exact ⟨0, by show 0 ≤ n; omega, by show n < 0 + 384; omega⟩
  by_cases h2 : n < 768
  · exact ⟨1, by show 384 ≤ n; omega, by show n < 384 + 384; omega⟩
  · exact ⟨2, by show 768 ≤ n; omega, by show n < 768 + 256; omega⟩

theorem rT_disj (c : Dev nD) (t t' : Tile) (hn : t ≠ t') : Disjoint (rT c t).set (rT c t').set := by
  refine Finset.disjoint_left.mpr fun y hy hy' => hn ?_
  rw [mem_rT] at hy hy'
  obtain ⟨b, h, p⟩ := t
  obtain ⟨b', h', p'⟩ := t'
  obtain rfl : p = p' := part_unique hy.2 hy'.2
  obtain ⟨hy, -⟩ := hy
  obtain ⟨hy', -⟩ := hy'
  dsimp only at hy hy'
  have hb : b = b' := by
    rcases half_cases p c with ⟨h0, h1⟩ | ⟨h0, h1⟩ <;> cases b <;> cases b' <;> first | rfl | (exfalso; omega)
  subst hb
  have : h = h' := Fin.ext (by omega)
  subst this
  rfl

theorem rT_cover (c : Dev nD) : (Finset.univ : Finset Tile).biUnion (fun t => (rT c t).set) = Finset.univ := by
  refine Finset.eq_univ_iff_forall.mpr fun y => ?_
  have hy : (y (0 : Fin 2)).val < 1024 := (y (0 : Fin 2)).isLt
  obtain ⟨p, hp⟩ := part_exists (show (y (1 : Fin 2)).val < 1024 from (y (1 : Fin 2)).isLt)
  have key : ∀ b : Bool, half b p c ≤ (y (0 : Fin 2)).val → (y (0 : Fin 2)).val < half b p c + 512 → ∃ t : Tile, y ∈ (rT c t).set := fun b h1 h2 =>
    ⟨(b, ⟨((y (0 : Fin 2)).val - half b p c) / 128, by omega⟩, p), mem_rT.mpr ⟨by dsimp only; omega, hp⟩⟩
  have : ∃ t : Tile, y ∈ (rT c t).set := by
    rcases half_cases p c with ⟨h0, h1⟩ | ⟨h0, h1⟩
    · by_cases hr : (y (0 : Fin 2)).val < 512
      · exact key false (by omega) (by omega)
      · exact key true (by omega) (by omega)
    · by_cases hr : (y (0 : Fin 2)).val < 512
      · exact key true (by omega) (by omega)
      · exact key false (by omega) (by omega)
  obtain ⟨t, ht⟩ := this
  exact Finset.mem_biUnion.mpr ⟨t, Finset.mem_univ _, ht⟩

/-- The chunks of a kept half are its tiles. -/
theorem rO_rC (c : Dev nD) (p : Fin 3) (h : Fin 4) (j : (SC p).Idx) : (rK c p h).emb j = (rO c p).emb ((rC p h).emb j) := by
  refine Rect.emb_eq_of_coords _ _ _ fun a => ?_
  show offO c p a + 1 * ((![128 * h.val, 0] : Fin 2 → ℕ) a + 1 * (j a).val) = offK c p h a + 1 * (j a).val
  rw [offO_eq, offK_eq]
  fin_cases a
  · show keep p c + 1 * (128 * h.val + 1 * (j (0 : Fin 2)).val) = keep p c + 128 * h.val + 1 * (j (0 : Fin 2)).val; omega
  · show c0 p + 1 * (0 + 1 * (j (1 : Fin 2)).val) = c0 p + 1 * (j (1 : Fin 2)).val; omega

/-- Kept halves of different parts are apart. -/
theorem rO_apart (c : Dev nD) {p p' : Fin 3} (hn : p ≠ p') (j : (SH p).Idx) : (rO c p).emb j ∉ (rO c p').set := by
  intro hm
  have h := mem_of_emb (rO c p) j
  rw [Rect.mem_set_unit] at h hm
  have h1 := h (1 : Fin 2)
  have h2 := hm (1 : Fin 2)
  rw [offO_eq] at h1 h2
  exact hn (part_unique h1 h2)

end Cert.AllReduce

end
-- ==== Proof.Phases.lean ====
/-
The phases of the body: each is one piece, run for every part or every chunk in turn.
-/
module

public import proofs.«01_k».proof.Proof.Pieces
public import proofs.«01_k».proof.Proof.Regions

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)
variable (K : Dev nD × Cell → ℕ) (c : Dev nD)
variable {Q : PUnit → sProp (MT nD τ sig Unit (Elt F) ℕ UU ℕ)}

/-- What a transfer needs besides its contents: its tokens and the chunk it writes. -/
def ready (i : Xf) : sProp 𝕄 := iprop(tokS c i ∗ room (F := F) (nbr (axX i) c) i)

/-- The activations and the weights of the device, staged. -/
def inputs : sProp 𝕄 := iprop(ownsTc c mx fullShare (xs c) ∗ ownsTc c mw fullShare (ws c))

/-- A send buffer at any contents, -/
def blank (p : Fin 3) (w : Fin 4) : sProp 𝕄 := iprop(∃ X : (SH p).Idx → Elt F .bf16, ownsTc c (sb p w) fullShare X)
/-- and a chunk of one. -/
def blankC (i : Xf) : sProp 𝕄 := iprop(∃ X : (SC i.1).Idx → Elt F .bf16, ownsTc c (sbC i) fullShare X)

/-- A chunk of the result's kept half, at `X`, -/
def outK (hp : Fin 4 × Fin 3) (X : Vec F (SC hp.2) .f32) : sProp 𝕄 :=
  ownsTc c (mo.slice (rK c hp.2 hp.1) (fun _ => rfl)) fullShare X
/-- and of the half sent away. -/
def outS (hp : Fin 4 × Fin 3) (X : Vec F (SC hp.2) .f32) : sProp 𝕄 :=
  ownsTc c (mo.slice (rS c hp.2 hp.1) (fun _ => rfl)) fullShare X

/-- The transfers of the first stage of a part. -/
def four (p : Fin 3) : List Xf := [0, 1, 2, 3].map fun h => (p, 0, h)

theorem first_eq : first = parts.flatMap four := rfl

/-! ## The first products, sent -/

/-- Four chunks sent one after the other. -/
theorem run_sends (l rest : List Xf) (k : PG F) :
    iprop(know xs ws K ∗ each (fun i => iprop(ready (F := F) c i ∗ sentP xs ws c i)) l ∗ owing (F := F) c (l ++ rest))
      ⊢ iprop((each (leaving (F := F) c) l -∗ owing (F := F) c rest -∗ run c Q k) -∗ run c Q (l.foldr (sendOp c) k)) := by
  have hf := wp_foldr (run (F := F) c Q) (sendOp c) k (fun i => iprop(ready (F := F) c i ∗ sentP xs ws c i)) (leaving (F := F) c)
    (fun l => iprop(know xs ws K ∗ owing (F := F) c (l ++ rest))) (fun i l k => by
      unfold ready
      iintro ⟨⟨⟨Ht, Hr⟩, Hs⟩, ⟨#HK, HO⟩, Hk⟩
      iapply (run_send xs ws K c i (l ++ rest) k) $$ [Ht Hr Hs HO]
      · isplitr; · iexact HK
        isplitl [Ht]; · iexact Ht
        isplitl [Hr]; · iexact Hr
        isplitl [Hs]; · iexact Hs
        iexact HO
      iintro Hl HO
      iapply Hk $$ Hl [HO]
      isplitr; · iexact HK
      iexact HO) l
  iintro ⟨#HK, HR, HO⟩ Hk
  iapply hf
  isplitl [HR]; · iexact HR
  isplitl [HO]
  · isplitr; · iexact HK
    iexact HO
  iintro HR ⟨-, HO⟩
  iapply Hk $$ HR [HO]
  iexact HO

/-- The product for the half sent away is stored whole; its chunks are what the first transfers carry. -/
theorem sent_chunks (p : Fin 3) (Y : (SH p).Idx → Elt F .bf16) (hY : ∀ j, Y j = sentH xs ws c p j) :
    (ownsTc c (sb p 0) fullShare Y : sProp 𝕄) ⊢ each (sentP xs ws c) (four p) := by
  have hE : each (sentP (F := F) xs ws c) (four p) = bigSep Finset.univ fun h : Fin 4 => sentP xs ws c (p, 0, h) := by
    unfold four; rw [each_map, each_eq _ (by decide) (by decide)]
  rw [hE]
  refine (owns_rects (c : Thread nD τ) (sb p 0) fullShare (rC p) (fun _ _ => rfl) (rC_disj p) (rC_cover p) Y).trans (bigSep_mono fun h _ => ?_)
  obtain rfl : Y = sentH xs ws c p := funext hY
  exact Entails.refl _

theorem run_partA (p : Fin 3) (rest : List Xf) (k : PG F) :
    iprop(know xs ws K ∗ each (ready (F := F) c) (four p) ∗ blank (F := F) c p 0 ∗ inputs xs ws c ∗ owing (F := F) c (four p ++ rest))
      ⊢ iprop((each (leaving (F := F) c) (four p) -∗ inputs xs ws c -∗ owing (F := F) c rest -∗ run c Q k) -∗ run c Q (partA c p k)) := by
  unfold inputs blank
  iintro ⟨#HK, HR, ⟨%X, Hb⟩, ⟨Hx, Hw⟩, HO⟩ Hk
  unfold partA
  iapply (wp_load_whole Variants.none (c : Thread nD τ) none Set.univ (m := mx)) $$ Hx; iintro Hx
  iapply (wp_load_whole Variants.none (c : Thread nD τ) none Set.univ (m := mw)) $$ Hw; iintro Hw
  iapply (wp_load_whole Variants.none (c : Thread nD τ) none Set.univ (m := sb p 0)) $$ Hb; iintro Hb
  iapply (wp_store_whole Variants.none (c : Thread nD τ) none Set.univ (m := sb p 0)) $$ Hb
  iintro %Y %hY Hb
  ihave Hs := (sent_chunks xs ws c p Y fun j => (congrArg Y (rH_emb p j)).symm.trans (hY.1 j)) $$ Hb
  iapply (run_sends xs ws K c (four p) rest k) $$ [HR Hs HO]
  · isplitr; · iexact HK
    isplitl [HR Hs]
    · iapply (each_sep _ _ _).2
      isplitl [HR] <;> iassumption
    iexact HO
  iintro HL HO
  iapply Hk $$ HL [Hx Hw] HO
  isplitl [Hx] <;> iassumption

theorem run_A (rest : List Xf) (k : PG F) :
    iprop(know xs ws K ∗ each (ready (F := F) c) first ∗ each (fun p => blank (F := F) c p 0) parts ∗ inputs xs ws c ∗ owing (F := F) c (first ++ rest))
      ⊢ iprop((each (leaving (F := F) c) first -∗ inputs xs ws c -∗ owing (F := F) c rest -∗ run c Q k) -∗ run c Q (parts.foldr (partA c) k)) := by
  rw [first_eq]
  have hf := wp_foldr (run (F := F) c Q) (partA c) k (fun p => iprop(each (ready (F := F) c) (four p) ∗ blank (F := F) c p 0))
    (fun p => each (leaving (F := F) c) (four p))
    (fun l => iprop(know xs ws K ∗ inputs xs ws c ∗ owing (F := F) c (l.flatMap four ++ rest))) (fun p l k => by
      rw [List.flatMap_cons, List.append_assoc]
      iintro ⟨⟨HR, HB⟩, ⟨#HK, HI, HO⟩, Hk⟩
      iapply (run_partA xs ws K c p (l.flatMap four ++ rest) k) $$ [HR HB HI HO]
      · isplitr; · iexact HK
        isplitl [HR]; · iexact HR
        isplitl [HB]; · iexact HB
        isplitl [HI]; · iexact HI
        iexact HO
      iintro HL HI HO
      iapply Hk $$ HL [HI HO]
      isplitr; · iexact HK
      isplitl [HI] <;> iassumption) parts
  iintro ⟨#HK, HR, HB, HI, HO⟩ Hk
  ihave HR' := (each_flatMap four (ready (F := F) c) parts).1 $$ HR
  iapply hf
  isplitl [HR' HB]
  · iapply (each_sep _ _ _).2
    isplitl [HR'] <;> iassumption
  isplitl [HI HO]
  · isplitr; · iexact HK
    isplitl [HI] <;> iassumption
  iintro HL ⟨-, HI, HO⟩
  iapply Hk $$ [HL] HI [HO]
  · iapply (each_flatMap four (leaving (F := F) c) parts).2
    iexact HL
  · iexact HO

/-! ## The products kept -/

/-- The result, with the kept halves of the parts outside the list in place. -/
def filled (l : List (Fin 3)) : sProp 𝕄 :=
  iprop(∃ Y : S1024x1024.Idx → Elt F .f32, ⌜∀ p, p ∉ l → ∀ j, Y ((rO c p).emb j) = kept xs ws c p j⌝ ∗ ownsTc c mo fullShare Y)

theorem run_partB (p : Fin 3) (l : List (Fin 3)) (k : PG F) :
    iprop(filled xs ws c (p :: l) ∗ inputs xs ws c)
      ⊢ iprop((filled xs ws c l -∗ inputs xs ws c -∗ run c Q k) -∗ run c Q (partB c p k)) := by
  unfold inputs filled
  iintro ⟨⟨%X, %hX, Ho⟩, ⟨Hx, Hw⟩⟩ Hk
  unfold partB
  iapply (wp_load_whole Variants.none (c : Thread nD τ) none Set.univ (m := mx)) $$ Hx; iintro Hx
  iapply (wp_load_whole Variants.none (c : Thread nD τ) none Set.univ (m := mw)) $$ Hw; iintro Hw
  iapply (wp_load_whole Variants.none (c : Thread nD τ) none Set.univ (m := mo)) $$ Ho; iintro Ho
  iapply (wp_store_whole Variants.none (c : Thread nD τ) none Set.univ (m := mo)) $$ Ho
  iintro %Y %hY Ho
  iapply Hk $$ [Ho] [Hx Hw]
  · iexists Y
    isplitr
    · ipureintro
      intro p' hp' j
      by_cases h : p' = p
      · subst h; exact hY.1 j
      · rw [hY.2 _ (rO_apart c h j)]
        exact hX p' (fun hm => by rcases List.mem_cons.mp hm with h' | h'; exacts [h h', hp' h']) j
    iexact Ho
  isplitl [Hx] <;> iassumption

/-- The result with every kept half in place, cut into tiles. -/
theorem filled_chunks :
    filled xs ws c [] ⊢ iprop(each (fun hp => outK c hp (acc xs ws c hp.2 hp.1 0)) chunks ∗ each (fun hp => iprop(∃ X, outS c hp X)) chunks : sProp 𝕄) := by
  unfold filled
  iintro ⟨%Y, %hY, H⟩
  ihave H' := (owns_rects (c : Thread nD τ) mo fullShare (rT c) (fun _ _ => rfl) (rT_disj c) (rT_cover c) Y) $$ H
  have hE := each_eq (fun t : Tile => (owns (c : Thread nD τ) (mo.slice (rT c t) (fun _ => rfl)) fullShare (fun j => Y ((rT c t).emb j)) : sProp 𝕄))
    (l := chunks.map (fun hp => (false, hp)) ++ chunks.map (fun hp => (true, hp))) (by decide) (by decide)
  ihave H := (Entails.of_eq hE.symm) $$ H'
  ihave H' := (each_append _ _ _).1 $$ H
  icases H' with ⟨HK, HS⟩
  ihave HK := (Entails.of_eq (each_map _ _ _)) $$ HK
  ihave HS := (Entails.of_eq (each_map _ _ _)) $$ HS
  isplitl [HK]
  · iapply (each_mono (fun hp => ?_) chunks)
    rotate_left
    · iexact HK
    have hv : (fun j => Y ((rK c hp.2 hp.1).emb j)) = acc xs ws c hp.2 hp.1 0 := funext fun j => by
      rw [rO_rC, hY hp.2 (List.not_mem_nil)]; rfl
    show (ownsTc c (mo.slice (rK c hp.2 hp.1) (fun _ => rfl)) fullShare (fun j => Y ((rK c hp.2 hp.1).emb j)) : sProp 𝕄) ⊢ _
    rw [hv]; exact BIBase.Entails.refl
  · iapply (each_mono (fun hp => ?_) chunks)
    rotate_left
    · iexact HS
    show (ownsTc c (mo.slice (rS c hp.2 hp.1) (fun _ => rfl)) fullShare (fun j => Y ((rS c hp.2 hp.1).emb j)) : sProp 𝕄) ⊢ _
    unfold outS
    iintro H; iexists _; iexact H

theorem run_B (k : PG F) :
    iprop((∃ Y : S1024x1024.Idx → Elt F .f32, ownsTc c mo fullShare Y) ∗ inputs xs ws c)
      ⊢ iprop((each (fun hp => outK c hp (acc xs ws c hp.2 hp.1 0)) chunks -∗ each (fun hp => iprop(∃ X, outS c hp X)) chunks -∗ inputs xs ws c -∗ run c Q k)
        -∗ run c Q (parts.foldr (partB c) k)) := by
  have hf := wp_foldr (run (F := F) c Q) (partB c) k (fun _ => iprop(emp)) (fun _ => iprop(emp))
    (fun l => iprop(filled xs ws c l ∗ inputs xs ws c)) (fun p l k => by
      iintro ⟨-, HS, Hk⟩
      iapply (run_partB xs ws c p l k) $$ HS
      iintro HF HI
      iapply Hk $$ [] [HF HI]
      · iempintro
      isplitl [HF] <;> iassumption) parts
  iintro ⟨⟨%Y, Ho⟩, HI⟩ Hk
  iapply hf
  isplitr
  · unfold each parts; simp only [List.foldr]
    isplitr; · iempintro
    isplitr; · iempintro
    isplitr <;> iempintro
  isplitl [Ho HI]
  · isplitl [Ho]
    · unfold filled
      iexists Y
      isplitr
      · ipureintro; intro p hp; exact absurd (show p ∈ parts from by revert p; decide) hp
      iexact Ho
    iexact HI
  iintro - ⟨HF, HI⟩
  ihave H := (filled_chunks xs ws c) $$ HF
  icases H with ⟨HK, HS⟩
  iapply Hk $$ HK HS HI

/-! ## A stage of the reduction -/

theorem ofNat_castSucc : ∀ w : Fin 3, Fin.ofNat 4 w.val = w.castSucc := by decide

/-- Adding what has arrived is one step of the running sum, -/
theorem acc_step (p : Fin 3) (h : Fin 4) (w : Fin 3) :
    psum p (acc xs ws c p h w.val) (snt xs ws (nbr (axX (p, w.castSucc, h)) c) (p, w.castSucc, h)) = acc xs ws c p h (w.val + 1) := by
  unfold acc snt axX
  rw [st, ofNat_castSucc]; rfl
/-- and its copy is what goes out next. -/
theorem snt_step (p : Fin 3) (h : Fin 4) (w : Fin 3) :
    psumB p (acc xs ws c p h w.val) (snt xs ws (nbr (axX (p, w.castSucc, h)) c) (p, w.castSucc, h)) = snt xs ws c (p, w.succ, h) := by
  unfold acc snt axX
  rw [show ((p, w.succ, h) : Xf).2.1.val = w.val + 1 from Fin.val_succ w, st, ofNat_castSucc]; rfl

theorem run_partC (w : Fin 3) (h : Fin 4) (p : Fin 3) (l : List Xf) (hl : ∀ j ∈ l, w.val < j.2.1.val) (k : PG F) :
    iprop(know xs ws K ∗ awaits (F := F) c (p, w.castSucc, h) ∗ ready (F := F) c (p, w.succ, h) ∗ blankC (F := F) c (p, w.succ, h)
        ∗ outK c (h, p) (acc xs ws c p h w.val) ∗ owing (F := F) c ((p, w.succ, h) :: l))
      ⊢ iprop((arrived xs ws c (p, w.castSucc, h) -∗ leaving (F := F) c (p, w.succ, h) -∗ outK c (h, p) (acc xs ws c p h (w.val + 1))
          -∗ owing (F := F) c l -∗ run c Q k) -∗ run c Q (partC c w h p k)) := by
  unfold ready blankC outK
  iintro ⟨#HK, HA, ⟨Ht, Hr⟩, ⟨%X, Hb⟩, Ho, HO⟩ Hk
  unfold partC
  iapply (run_recv xs ws K c (p, w.castSucc, h) ((p, w.succ, h) :: l) (fun j hj => by
    rcases List.mem_cons.mp hj with rfl | hj
    · show w.val < w.val + 1; omega
    · exact hl j hj) _) $$ [HA HO]
  · isplitr; · iexact HK
    isplitl [HA] <;> iassumption
  unfold arrived recvP
  iintro ⟨Hz, Hv⟩ HO
  iapply (wp_load_slice Variants.none (c : Thread nD τ) none Set.univ (m := mo)) $$ Ho; iintro Ho
  iapply (wp_load_slice Variants.none (c : Thread nD τ) none Set.univ (m := rb p w.castSucc)) $$ Hv; iintro Hv
  iapply (wp_load_slice Variants.none (c : Thread nD τ) none Set.univ (m := sb p w.succ)) $$ Hb; iintro Hb
  iapply (wp_store_slice Variants.none (c : Thread nD τ) none Set.univ (m := sb p w.succ)) $$ Hb; iintro Hb
  iapply (run_send xs ws K c (p, w.succ, h) l _) $$ [Ht Hr Hb HO]
  · isplitr; · iexact HK
    isplitl [Ht]; · iexact Ht
    isplitl [Hr]; · iexact Hr
    isplitl [Hb]
    · unfold sentP
      rw [← snt_step]
      iexact Hb
    iexact HO
  iintro HL HO
  iapply (wp_load_slice Variants.none (c : Thread nD τ) none Set.univ (m := mo)) $$ Ho; iintro Ho
  iapply (wp_store_slice Variants.none (c : Thread nD τ) none Set.univ (m := mo)) $$ Ho; iintro Ho
  iapply Hk $$ [Hz Hv] HL [Ho] HO
  · isplitl [Hz] <;> iassumption
  · rw [← acc_step]
    iexact Ho

theorem run_C (w : Fin 3) (rest : List Xf) (hrest : ∀ j ∈ rest, w.val < j.2.1.val) (k : PG F) :
    iprop(know xs ws K ∗ each (awaits (F := F) c) (later w.castSucc) ∗ each (ready (F := F) c) (later w.succ) ∗ each (blankC (F := F) c) (later w.succ)
        ∗ each (fun hp => outK c hp (acc xs ws c hp.2 hp.1 w.val)) chunks ∗ owing (F := F) c (later w.succ ++ rest))
      ⊢ iprop((each (arrived xs ws c) (later w.castSucc) -∗ each (leaving (F := F) c) (later w.succ)
          -∗ each (fun hp => outK c hp (acc xs ws c hp.2 hp.1 (w.val + 1))) chunks -∗ owing (F := F) c rest -∗ run c Q k)
        -∗ run c Q (chunks.foldr (fun hp => partC c w hp.1 hp.2) k)) := by
  unfold later
  simp only [each_map]
  have hf := wp_foldr (run (F := F) c Q) (fun hp => partC c w hp.1 hp.2) k
    (fun hp => iprop(awaits (F := F) c (hp.2, w.castSucc, hp.1) ∗ ready (F := F) c (hp.2, w.succ, hp.1) ∗ blankC (F := F) c (hp.2, w.succ, hp.1)
      ∗ outK c hp (acc xs ws c hp.2 hp.1 w.val)))
    (fun hp => iprop(arrived xs ws c (hp.2, w.castSucc, hp.1) ∗ leaving (F := F) c (hp.2, w.succ, hp.1) ∗ outK c hp (acc xs ws c hp.2 hp.1 (w.val + 1))))
    (fun l => iprop(know xs ws K ∗ owing (F := F) c (l.map (fun hp => (hp.2, w.succ, hp.1)) ++ rest))) (fun hp l k => by
      rw [List.map_cons, List.cons_append]
      iintro ⟨⟨HA, HR, HB, HV⟩, ⟨#HK, HO⟩, Hk⟩
      iapply (run_partC xs ws K c w hp.1 hp.2 (l.map (fun hp => (hp.2, w.succ, hp.1)) ++ rest) (fun j hj => by
        rcases List.mem_append.mp hj with hj | hj
        · obtain ⟨hp', -, rfl⟩ := List.mem_map.mp hj
          show w.val < w.val + 1; omega
        · exact hrest j hj) k) $$ [HA HR HB HV HO]
      · isplitr; · iexact HK
        isplitl [HA]; · iexact HA
        isplitl [HR]; · iexact HR
        isplitl [HB]; · iexact HB
        isplitl [HV]; · iexact HV
        iexact HO
      iintro HA HL HV HO
      iapply Hk $$ [HA HL HV] [HO]
      · isplitl [HA]; · iexact HA
        isplitl [HL] <;> iassumption
      · isplitr; · iexact HK
        iexact HO) chunks
  iintro ⟨#HK, HA, HR, HB, HV, HO⟩ Hk
  iapply hf
  isplitl [HA HR HB HV]
  · iapply (each_sep _ _ _).2
    isplitl [HA]; · iexact HA
    iapply (each_sep _ _ _).2
    isplitl [HR]; · iexact HR
    iapply (each_sep _ _ _).2
    isplitl [HB] <;> iassumption
  isplitl [HO]
  · isplitr; · iexact HK
    iexact HO
  iintro H ⟨-, HO⟩
  ihave H' := (each_sep _ _ _).1 $$ H
  icases H' with ⟨HA, H⟩
  ihave H' := (each_sep _ _ _).1 $$ H
  icases H' with ⟨HL, HV⟩
  iapply Hk $$ HA HL HV [HO]
  iexact HO

/-! ## The last stage, and the waits for what was sent -/

/-- The value of chunk `h` of the half of part `p` that device `c` sent away: its neighbour's finished sum, in
    single precision. -/
def back (p : Fin 3) (h : Fin 4) : Vec F (SC p) .f32 := pext p (snt xs ws (nbr (axX (p, 3, h)) c) (p, 3, h))

theorem run_partD (h : Fin 4) (p : Fin 3) (k : PG F) :
    iprop(know xs ws K ∗ awaits (F := F) c (p, 3, h) ∗ (∃ X, outS c (h, p) X) ∗ owing (F := F) c [])
      ⊢ iprop((arrived xs ws c (p, 3, h) -∗ outS c (h, p) (back xs ws c p h) -∗ owing (F := F) c [] -∗ run c Q k)
        -∗ run c Q (partD c h p k)) := by
  unfold outS
  iintro ⟨#HK, HA, ⟨%X, Ho⟩, HO⟩ Hk
  unfold partD
  iapply (run_recv xs ws K c (p, 3, h) [] (fun j hj => absurd hj List.not_mem_nil) _) $$ [HA HO]
  · isplitr; · iexact HK
    isplitl [HA] <;> iassumption
  unfold arrived recvP
  iintro ⟨Hz, Hv⟩ HO
  iapply (wp_load_slice Variants.none (c : Thread nD τ) none Set.univ (m := rb p 3)) $$ Hv; iintro Hv
  iapply (wp_load_slice Variants.none (c : Thread nD τ) none Set.univ (m := mo)) $$ Ho; iintro Ho
  iapply (wp_store_slice Variants.none (c : Thread nD τ) none Set.univ (m := mo)) $$ Ho; iintro Ho
  iapply Hk $$ [Hz Hv] [Ho] HO
  · isplitl [Hz] <;> iassumption
  · unfold back; iexact Ho

theorem run_D (k : PG F) :
    iprop(know xs ws K ∗ each (awaits (F := F) c) (later 3) ∗ each (fun hp => iprop(∃ X, outS c hp X)) chunks ∗ owing (F := F) c [])
      ⊢ iprop((each (arrived xs ws c) (later 3) -∗ each (fun hp => outS c hp (back xs ws c hp.2 hp.1)) chunks -∗ owing (F := F) c [] -∗ run c Q k)
        -∗ run c Q (chunks.foldr (fun hp => partD c hp.1 hp.2) k)) := by
  unfold later
  simp only [each_map]
  have hf := wp_foldr (run (F := F) c Q) (fun hp => partD c hp.1 hp.2) k
    (fun hp => iprop(awaits (F := F) c (hp.2, 3, hp.1) ∗ ∃ X, outS c hp X))
    (fun hp => iprop(arrived xs ws c (hp.2, 3, hp.1) ∗ outS c hp (back xs ws c hp.2 hp.1)))
    (fun _ => iprop(know xs ws K ∗ owing (F := F) c [])) (fun hp l k => by
      iintro ⟨⟨HA, HV⟩, ⟨#HK, HO⟩, Hk⟩
      iapply (run_partD xs ws K c hp.1 hp.2 k) $$ [HA HV HO]
      · isplitr; · iexact HK
        isplitl [HA]; · iexact HA
        isplitl [HV]; · iexact HV
        iexact HO
      iintro HA HV HO
      iapply Hk $$ [HA HV] [HO]
      · isplitl [HA] <;> iassumption
      · isplitr; · iexact HK
        iexact HO) chunks
  iintro ⟨#HK, HA, HV, HO⟩ Hk
  iapply hf
  isplitl [HA HV]
  · iapply (each_sep _ _ _).2
    isplitl [HA] <;> iassumption
  isplitl [HO]
  · isplitr; · iexact HK
    iexact HO
  iintro H ⟨-, HO⟩
  ihave H' := (each_sep _ _ _).1 $$ H
  icases H' with ⟨HA, HV⟩
  iapply Hk $$ HA HV HO

theorem run_E (k : PG F) :
    iprop(know xs ws K ∗ each (leaving (F := F) c) sends ∗ each (fun i => atPos ER (sndC c i) 0 ∅ 0) sends ∗ owing (F := F) c [])
      ⊢ iprop((each (gone xs ws c) sends -∗ owing (F := F) c [] -∗ run c Q k) -∗ run c Q (sends.foldr waitSend k)) := by
  have hf := wp_foldr (run (F := F) c Q) waitSend k
    (fun i => iprop(leaving (F := F) c i ∗ atPos ER (sndC c i) 0 ∅ 0)) (gone xs ws c)
    (fun _ => iprop(know xs ws K ∗ owing (F := F) c [])) (fun i l k => by
      iintro ⟨HL, ⟨#HK, HO⟩, Hk⟩
      iapply (run_gone xs ws K c i k) $$ [HL HO]
      · isplitr; · iexact HK
        isplitl [HL]; · iexact HL
        iexact HO
      iintro HG HO
      iapply Hk $$ HG [HO]
      isplitr; · iexact HK
      iexact HO) sends
  iintro ⟨#HK, HL, HP, HO⟩ Hk
  iapply hf
  isplitl [HL HP]
  · iapply (each_sep _ _ _).2
    isplitl [HL] <;> iassumption
  isplitl [HO]
  · isplitr; · iexact HK
    iexact HO
  iintro HG ⟨-, HO⟩
  iapply Hk $$ HG HO

end Cert.AllReduce

end
-- ==== Proof.Body.lean ====
/-
The body of one device, from what the launch deals it to what it leaves.
-/
module

public import proofs.«01_k».proof.Proof.Phases
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)
variable (K : Dev nD × Cell → ℕ) (c : Dev nD)
variable {Q : PUnit → sProp (MT nD τ sig Unit (Elt F) ℕ UU ℕ)}

instance f32_nonempty : Nonempty (Elt F .f32) := Elt.nonempty F .f32
instance bf16_nonempty : Nonempty (Elt F .bf16) := Elt.nonempty F .bf16

/-! ## Buffers and their chunks -/

omit [FloatOps F] in
theorem any_intro {s : Shape} {e : EltTy} (m : Memref sig .tc .vmem s e) (X : s.Idx → Elt F e) :
    (ownsTc c m fullShare X : sProp 𝕄) ⊢ iprop(∃ X : s.Idx → Elt F e, ownsTc c m fullShare X) := by
  iintro H; iexists X; iexact H

/-- A buffer at any contents is its four chunks at any contents. -/
theorem any_split {p : Fin 3} (m : Memref sig .tc .vmem (SH p) .bf16) :
    iprop(∃ X : (SH p).Idx → Elt F .bf16, ownsTc c m fullShare X)
      ⊢ (bigSep Finset.univ fun h : Fin 4 => iprop(∃ X : (SC p).Idx → Elt F .bf16, ownsTc c (m.slice (rC p h) (fun _ => rfl)) fullShare X) : sProp 𝕄) := by
  iintro ⟨%X, H⟩
  iapply ((owns_rects (c : Thread nD τ) m fullShare (rC p) (fun _ _ => rfl) (rC_disj p) (rC_cover p) X).trans (bigSep_mono fun h _ =>
    any_intro c (m.slice (rC p h) (fun _ => rfl)) _))
  iexact H

theorem any_join {p : Fin 3} (m : Memref sig .tc .vmem (SH p) .bf16) :
    (bigSep Finset.univ fun h : Fin 4 => iprop(∃ X : (SC p).Idx → Elt F .bf16, ownsTc c (m.slice (rC p h) (fun _ => rfl)) fullShare X) : sProp 𝕄)
      ⊢ iprop(∃ X : (SH p).Idx → Elt F .bf16, ownsTc c m fullShare X) := by
  refine (BI.bigSep_exists_pi Finset.univ fun (h : Fin 4) (X : (SC p).Idx → Elt F .bf16) =>
    (ownsTc c (m.slice (rC p h) (fun _ => rfl)) fullShare X : sProp 𝕄)).trans ?_
  iintro ⟨%V, H⟩
  iexists (glue (rC p) V)
  iapply (owns_of_rects (c : Thread nD τ) m fullShare (rC p) (fun _ _ => rfl) (rC_disj p) (rC_cover p) (glue (rC p) V))
  have hg (h : Fin 4) : (fun j => glue (rC p) V ((rC p h).emb j)) = V h := funext fun j => glue_emb (rC p) V (rC_disj p) h j
  simp only [hg]
  iexact H

/-- A receive buffer at any contents. -/
def blankR (p : Fin 3) (w : Fin 4) : sProp 𝕄 := iprop(∃ X : (SH p).Idx → Elt F .bf16, ownsTc c (rb p w) fullShare X)

/-- Every buffer of the device, at any contents. -/
def buffers : sProp 𝕄 :=
  iprop((bigSep Finset.univ fun pw : Fin 3 × Fin 4 => blank (F := F) c pw.1 pw.2) ∗ bigSep Finset.univ fun pw : Fin 3 × Fin 4 => blankR (F := F) c pw.1 pw.2)

omit [FloatOps F] in
/-- A conjunction over the transfers, by part, stage and chunk. -/
theorem by_chunk (Φ : Xf → sProp 𝕄) :
    bigSep Finset.univ Φ = bigSep Finset.univ fun pw : Fin 3 × Fin 4 => bigSep Finset.univ fun h : Fin 4 => Φ (pw.1, pw.2, h) := by
  rw [bigSep_univ_prod, bigSep_univ_prod]
  exact bigSep_congr fun p _ => bigSep_univ_prod _

theorem buffers_split :
    buffers (F := F) c ⊢ iprop((bigSep Finset.univ fun i : Xf => blankC (F := F) c i) ∗ bigSep Finset.univ fun i : Xf => room (F := F) c i) := by
  unfold buffers
  rw [by_chunk (fun i => blankC (F := F) c i), by_chunk (fun i => room (F := F) c i)]
  exact (sep_mono_left (bigSep_mono fun pw _ => any_split c (sb pw.1 pw.2))).trans
    (sep_mono_right (bigSep_mono fun pw _ => any_split c (rb pw.1 pw.2)))

theorem buffers_join :
    iprop((bigSep Finset.univ fun i : Xf => blankC (F := F) c i) ∗ bigSep Finset.univ fun i : Xf => room (F := F) c i) ⊢ buffers (F := F) c := by
  unfold buffers
  rw [by_chunk (fun i => blankC (F := F) c i), by_chunk (fun i => room (F := F) c i)]
  exact (sep_mono_left (bigSep_mono fun pw _ => any_join c (sb pw.1 pw.2))).trans
    (sep_mono_right (bigSep_mono fun pw _ => any_join c (rb pw.1 pw.2)))

/-- The chunks of the first stage's send buffers are those buffers. -/
theorem first_blank : each (blankC (F := F) c) first ⊢ (each (fun p => blank (F := F) c p 0) parts : sProp 𝕄) := by
  rw [first_eq]
  refine (each_flatMap four (blankC (F := F) c) parts).1.trans (each_mono (fun p => ?_) parts)
  unfold four
  rw [each_map, each_eq (fun h : Fin 4 => blankC (F := F) c (p, 0, h)) (by decide) (by decide)]
  exact any_join c (sb p 0)

/-! ## The transfers, stage by stage -/

omit [FloatOps F] in
/-- In the order of their sending, -/
theorem by_sends (Φ : Xf → sProp 𝕄) : bigSep Finset.univ Φ = each Φ sends := (each_eq Φ (by decide) (by decide)).symm
omit [FloatOps F] in
theorem sends_stages (Φ : Xf → sProp 𝕄) : each Φ sends ⊣⊢ iprop(each Φ first ∗ each Φ (later 1) ∗ each Φ (later 2) ∗ each Φ (later 3)) := by
  rw [show sends = first ++ (later 1 ++ (later 2 ++ later 3)) from rfl]
  have h1 := each_append Φ first (later 1 ++ (later 2 ++ later 3))
  have h2 := each_append Φ (later 1) (later 2 ++ later 3)
  have h3 := each_append Φ (later 2) (later 3)
  exact ⟨h1.1.trans (sep_mono_right (h2.1.trans (sep_mono_right h3.1))), (sep_mono_right ((sep_mono_right h3.2).trans h2.2)).trans h1.2⟩
omit [FloatOps F] in
/-- and in the order of their arrival. -/
theorem by_stages (Φ : Xf → sProp 𝕄) : bigSep Finset.univ Φ ⊣⊢ iprop(each Φ (later 0) ∗ each Φ (later 1) ∗ each Φ (later 2) ∗ each Φ (later 3)) := by
  rw [← each_eq Φ (l := later 0 ++ (later 1 ++ (later 2 ++ later 3))) (by decide) (by decide)]
  have h1 := each_append Φ (later 0) (later 1 ++ (later 2 ++ later 3))
  have h2 := each_append Φ (later 1) (later 2 ++ later 3)
  have h3 := each_append Φ (later 2) (later 3)
  exact ⟨h1.1.trans (sep_mono_right (h2.1.trans (sep_mono_right h3.1))), (sep_mono_right ((sep_mono_right h3.2).trans h2.2)).trans h1.2⟩

/-! ## The result -/

/-- The result's tiles: a kept chunk holds the sum of all eight products, a chunk sent away the neighbour's. -/
def tileV (t : Tile) : Vec F (SC t.2.2) .f32 := match t with
  | (false, h, p) => acc xs ws c p h 3
  | (true, h, p) => back xs ws c p h

/-- The result of device `c`. -/
def outF : S1024x1024.Idx → Elt F .f32 := glue (rT c) (tileV xs ws c)

theorem outF_tile (t : Tile) (j : (SC t.2.2).Idx) : outF xs ws c ((rT c t).emb j) = tileV xs ws c t j :=
  glue_emb (rT c) (tileV xs ws c) (rT_disj c) t j

/-- All tiles at their values are the result. -/
theorem out_join :
    iprop(each (fun hp => outK c hp (acc xs ws c hp.2 hp.1 3)) chunks ∗ each (fun hp => outS c hp (back xs ws c hp.2 hp.1)) chunks)
      ⊢ (ownsTc c mo fullShare (outF xs ws c) : sProp 𝕄) := by
  have hE := each_eq (fun t : Tile => (owns (c : Thread nD τ) (mo.slice (rT c t) (fun _ => rfl)) fullShare (fun j => outF xs ws c ((rT c t).emb j)) : sProp 𝕄))
    (l := chunks.map (fun hp => (false, hp)) ++ chunks.map (fun hp => (true, hp))) (by decide) (by decide)
  refine BIBase.Entails.trans ?_ (owns_of_rects (c : Thread nD τ) mo fullShare (rT c) (fun _ _ => rfl) (rT_disj c) (rT_cover c) (outF xs ws c))
  refine BIBase.Entails.trans ?_ (Entails.of_eq hE)
  refine BIBase.Entails.trans ?_ (each_append _ _ _).2
  rw [each_map, each_map]
  refine (sep_mono_left (each_mono (fun hp => ?_) chunks)).trans (sep_mono_right (each_mono (fun hp => ?_) chunks))
  · rw [show (fun j => outF xs ws c ((rT c (false, hp)).emb j)) = acc xs ws c hp.2 hp.1 3 from funext fun j => outF_tile xs ws c (false, hp) j]
    exact BIBase.Entails.refl
  · rw [show (fun j => outF xs ws c ((rT c (true, hp)).emb j)) = back xs ws c hp.2 hp.1 from funext fun j => outF_tile xs ws c (true, hp) j]
    exact BIBase.Entails.refl

/-! ## The body -/

/-- What the launch deals device `c`, besides the records all devices share: its tokens, its positions and its
    credit. -/
def dealt : sProp 𝕄 :=
  iprop((bigSep Finset.univ fun i : Xf => tokS (F := F) c i) ∗ (bigSep Finset.univ fun a : Fin 3 => dutyTok ER (barC (nbr a c)) 0 a)
    ∗ cred (tallyAt (barC c) () 3) ∗ atPos ER (barC c) 0 ∅ 0
    ∗ (bigSep Finset.univ fun i : Xf => awaits (F := F) c i) ∗ bigSep Finset.univ fun i : Xf => atPos ER (sndC c i) 0 ∅ 0)

/-- Every semaphore the body uses, back at zero. -/
def zeros : sProp 𝕄 :=
  iprop(semVal (barC c) 0 ∗ (bigSep Finset.univ fun i : Xf => semVal (sndC c i) 0) ∗ bigSep Finset.univ fun i : Xf => semVal (rcvC c i) 0)

/-- Reading the device's number. -/
theorem run_device (k : Dev nD → PG F) : run c Q (.op .deviceId k) = run c Q (k c) := wp_deviceId _ _ _ _

/-- At the end of the program, what the post asks. -/
theorem run_ret : Q ⟨⟩ ⊢ run c Q (.ret ⟨⟩) := by
  unfold run
  rw [wp_ret]
  iintro H
  imodintro
  iexact H

theorem run_body :
    iprop(know xs ws K ∗ dealt (F := F) c ∗ buffers (F := F) c ∗ (∃ W, owes (c : Thread nD τ) (O₀ c) W) ∗ inputs xs ws c
        ∗ ∃ Y : S1024x1024.Idx → Elt F .f32, ownsTc c mo fullShare Y)
      ⊢ iprop((zeros (F := F) c -∗ buffers (F := F) c -∗ (∃ W, owes (c : Thread nD τ) 0 W) -∗ inputs xs ws c -∗ ownsTc c mo fullShare (outF xs ws c) -∗ Q ⟨⟩)
        -∗ run c Q flat) := by
  have hflat : run c Q flat = run c Q (barrier c <| parts.foldr (partA c) <| parts.foldr (partB c) <|
      chunks.foldr (fun hp => partC c 0 hp.1 hp.2) <| chunks.foldr (fun hp => partC c 1 hp.1 hp.2) <|
      chunks.foldr (fun hp => partC c 2 hp.1 hp.2) <| chunks.foldr (fun hp => partD c hp.1 hp.2) <|
      sends.foldr waitSend <| .ret ⟨⟩) := by unfold flat; rw [run_device]
  unfold dealt
  iintro ⟨#HK, ⟨Htok, Hbt, Hbc, Hba, Haw, Hat⟩, Hbuf, HO, HI, Hout⟩ Hk
  rw [hflat]
  ihave Hb := (buffers_split (F := F) c) $$ Hbuf
  icases Hb with ⟨Hsb, Hrb⟩
  iapply (run_barrier xs ws K c _) $$ [Hrb Hbt Hbc Hba HO]
  · isplitr; · iexact HK
    isplitl [Hrb]; · iexact Hrb
    isplitl [Hbt]; · iexact Hbt
    isplitl [Hbc]; · iexact Hbc
    isplitl [Hba]; · iexact Hba
    iexact HO
  iintro HzB Hroom HO
  -- everything by stages
  have hready : bigSep Finset.univ (ready (F := F) c) = iprop((bigSep Finset.univ fun i : Xf => tokS (F := F) c i) ∗ bigSep Finset.univ fun i : Xf => room (F := F) (nbr (axX i) c) i) :=
    bigSep_sep' Finset.univ (fun i : Xf => tokS (F := F) c i) (fun i : Xf => room (F := F) (nbr (axX i) c) i)
  ihave Hready := (Entails.of_eq hready.symm) $$ [Htok Hroom]
  · isplitl [Htok] <;> iassumption
  ihave Hready' := ((Entails.of_eq (by_sends (ready (F := F) c))).trans (sends_stages (ready (F := F) c)).1) $$ Hready
  icases Hready' with ⟨HR0, HR1, HR2, HR3⟩
  ihave Hsb' := ((Entails.of_eq (by_sends (blankC (F := F) c))).trans (sends_stages (blankC (F := F) c)).1) $$ Hsb
  icases Hsb' with ⟨HB0, HB1, HB2, HB3⟩
  ihave HB := (first_blank (F := F) c) $$ HB0
  ihave Haw' := (by_stages (awaits (F := F) c)).1 $$ Haw
  icases Haw' with ⟨HA0, HA1, HA2, HA3⟩
  -- the phases
  iapply (run_A xs ws K c (later 1 ++ (later 2 ++ (later 3 ++ []))) _) $$ [HR0 HB HI HO]
  · isplitr; · iexact HK
    isplitl [HR0]; · iexact HR0
    isplitl [HB]; · iexact HB
    isplitl [HI]; · iexact HI
    iexact HO
  iintro HL0 HI HO
  iapply (run_B xs ws c _) $$ [Hout HI]
  · isplitl [Hout] <;> iassumption
  iintro HV HS HI
  iapply (run_C xs ws K c 0 (later 2 ++ (later 3 ++ [])) (by decide) _) $$ [HA0 HR1 HB1 HV HO]
  · isplitr; · iexact HK
    isplitl [HA0]; · iexact HA0
    isplitl [HR1]; · iexact HR1
    isplitl [HB1]; · iexact HB1
    isplitl [HV]; · iexact HV
    iexact HO
  iintro HV0 HL1 HV HO
  iapply (run_C xs ws K c 1 (later 3 ++ []) (by decide) _) $$ [HA1 HR2 HB2 HV HO]
  · isplitr; · iexact HK
    isplitl [HA1]; · iexact HA1
    isplitl [HR2]; · iexact HR2
    isplitl [HB2]; · iexact HB2
    isplitl [HV]; · iexact HV
    iexact HO
  iintro HV1 HL2 HV HO
  iapply (run_C xs ws K c 2 [] (by decide) _) $$ [HA2 HR3 HB3 HV HO]
  · isplitr; · iexact HK
    isplitl [HA2]; · iexact HA2
    isplitl [HR3]; · iexact HR3
    isplitl [HB3]; · iexact HB3
    isplitl [HV]; · iexact HV
    iexact HO
  iintro HV2 HL3 HV HO
  iapply (run_D xs ws K c _) $$ [HA3 HS HO]
  · isplitr; · iexact HK
    isplitl [HA3]; · iexact HA3
    isplitl [HS]; · iexact HS
    iexact HO
  iintro HV3 HS HO
  ihave HL := (sends_stages (leaving (F := F) c)).2 $$ [HL0 HL1 HL2 HL3]
  · isplitl [HL0]; · iexact HL0
    isplitl [HL1]; · iexact HL1
    isplitl [HL2]; · iexact HL2
    iexact HL3
  ihave Hat' := (Entails.of_eq (by_sends (fun i : Xf => (atPos ER (sndC c i) 0 ∅ 0 : sProp 𝕄)))) $$ Hat
  iapply (run_E xs ws K c _) $$ [HL Hat' HO]
  · isplitr; · iexact HK
    isplitl [HL]; · iexact HL
    isplitl [Hat']; · iexact Hat'
    iexact HO
  iintro HG HO
  -- what is left
  have hgone : bigSep Finset.univ (gone xs ws c) = iprop((bigSep Finset.univ fun i : Xf => semVal (sndC c i) 0) ∗ bigSep Finset.univ (sentP xs ws c)) :=
    bigSep_sep' Finset.univ (fun i : Xf => (semVal (sndC c i) 0 : sProp 𝕄)) (sentP xs ws c)
  have harrived : bigSep Finset.univ (arrived xs ws c) = iprop((bigSep Finset.univ fun i : Xf => semVal (rcvC c i) 0) ∗ bigSep Finset.univ (recvP xs ws c)) :=
    bigSep_sep' Finset.univ (fun i : Xf => (semVal (rcvC c i) 0 : sProp 𝕄)) (recvP xs ws c)
  have hsent : (bigSep Finset.univ (sentP xs ws c) : sProp 𝕄) ⊢ bigSep Finset.univ (blankC (F := F) c) :=
    bigSep_mono fun i _ => any_intro c (sbC i) _
  have hrecv : (bigSep Finset.univ (recvP xs ws c) : sProp 𝕄) ⊢ bigSep Finset.univ (room (F := F) c) :=
    bigSep_mono fun i _ => any_intro c (rbC i) _
  ihave HG' := (Entails.of_eq (by_sends (gone xs ws c)).symm) $$ HG
  ihave HV' := (by_stages (arrived xs ws c)).2 $$ [HV0 HV1 HV2 HV3]
  · isplitl [HV0]; · iexact HV0
    isplitl [HV1]; · iexact HV1
    isplitl [HV2]; · iexact HV2
    iexact HV3
  ihave HG := (Entails.of_eq hgone) $$ HG'
  icases HG with ⟨HzS, HsP⟩
  ihave HV'' := (Entails.of_eq harrived) $$ HV'
  icases HV'' with ⟨HzV, HrP⟩
  iapply (run_ret (F := F) c)
  iapply Hk $$ [HzB HzS HzV] [HsP HrP] [HO] HI [HV HS]
  · unfold zeros
    isplitl [HzB]; · iexact HzB
    isplitl [HzS] <;> iassumption
  · iapply (buffers_join (F := F) c)
    isplitl [HsP]
    · iapply hsent; iexact HsP
    · iapply hrecv; iexact HrP
  · unfold owing
    icases HO with ⟨%W, HO⟩
    iexists W
    iexact HO
  · iapply (out_join xs ws c)
    isplitl [HV]
    · iexact HV
    · iexact HS

/-! ## The launch's scratch buffers -/

/-- A scratch buffer of a transfer, at any contents: the receive buffer, or the send buffer. -/
def anyB (t : Bool × Fin 3 × Fin 4) : sProp 𝕄 := if t.1 then blankR c t.2.1 t.2.2 else blank c t.2.1 t.2.2

/-- The scratch buffers in their printed order. -/
def scratch : List (Bool × Fin 3 × Fin 4) :=
  [(0, 0), (0, 1), (0, 2), (0, 3), (1, 0), (1, 1), (1, 2), (1, 3), (2, 0), (2, 1), (2, 2), (2, 3)].flatMap fun pw => [(false, pw), (true, pw)]

/-- A whole scratch buffer at any contents. -/
def anyRef (b : Ref sig .tc) : sProp 𝕄 := iprop(∃ f : Buf (Elt F) ((c : Thread nD τ).loc b), ((c : Thread nD τ).loc b) ↦{fullShare} f)

/-- The buffer of a transfer. -/
def refB (t : Bool × Fin 3 × Fin 4) : Ref sig .tc := if t.1 then (rb t.2.1 t.2.2).view.ref else (sb t.2.1 t.2.2).view.ref

omit [FloatOps F] in
theorem any_whole (b : Ref sig .tc) : (iprop(∃ X : b.ty.Contents (Elt F), owns (c : Thread nD τ) (Memref.whole b) fullShare X) : sProp 𝕄) = anyRef c b := by
  unfold anyRef
  simp only [owns_whole]

omit [FloatOps F] in
theorem anyB_eq : ∀ t : Bool × Fin 3 × Fin 4, anyB (F := F) c t = anyRef c (refB t)
  | (false, 0, 0) => any_whole c cc0_scratch0
  | (true, 0, 0) => any_whole c cc0_scratch1
  | (false, 0, 1) => any_whole c cc0_scratch2
  | (true, 0, 1) => any_whole c cc0_scratch3
  | (false, 0, 2) => any_whole c cc0_scratch4
  | (true, 0, 2) => any_whole c cc0_scratch5
  | (false, 0, 3) => any_whole c cc0_scratch6
  | (true, 0, 3) => any_whole c cc0_scratch7
  | (false, 1, 0) => any_whole c cc0_scratch8
  | (true, 1, 0) => any_whole c cc0_scratch9
  | (false, 1, 1) => any_whole c cc0_scratch10
  | (true, 1, 1) => any_whole c cc0_scratch11
  | (false, 1, 2) => any_whole c cc0_scratch12
  | (true, 1, 2) => any_whole c cc0_scratch13
  | (false, 1, 3) => any_whole c cc0_scratch14
  | (true, 1, 3) => any_whole c cc0_scratch15
  | (false, 2, 0) => any_whole c cc0_scratch16
  | (true, 2, 0) => any_whole c cc0_scratch17
  | (false, 2, 1) => any_whole c cc0_scratch18
  | (true, 2, 1) => any_whole c cc0_scratch19
  | (false, 2, 2) => any_whole c cc0_scratch20
  | (true, 2, 2) => any_whole c cc0_scratch21
  | (false, 2, 3) => any_whole c cc0_scratch22
  | (true, 2, 3) => any_whole c cc0_scratch23

theorem scratch_eq : (Pipeline.scopedRest (Ix := Unit) (Name := ℕ) (U := UU) (Lvl := ℕ) (Val := Elt F) spec0 c : sProp 𝕄) = each (anyB (F := F) c) scratch := by
  rw [scopedRest0_eq, show anyB (F := F) c = fun t => anyRef c (refB t) from funext (anyB_eq c), ← each_map]
  unfold each
  rw [show scratch.map refB = [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23] from rfl]
  simp only [List.foldr_cons, List.foldr_nil, sep_emp_eq]
  rfl

theorem scratch_buffers : each (anyB (F := F) c) scratch = buffers (F := F) c := by
  rw [each_eq _ (by decide) (by decide), bigSep_univ_prod]
  unfold buffers
  rw [bigSep_univ_eq_bigSepL [false, true] (by decide) (by decide)]
  rfl

end Cert.AllReduce

end
-- ==== Proof.Setup.lean ====
/-
What the launch hands each device: the invariants of all semaphores of the protocol, its positions, the
tokens of the duties it pays, and its credit.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)
variable (c : Dev nD)

/-! ## Conjunctions over the semaphores -/

theorem cell_univ : (Finset.univ : Finset Cell) = insert none (Finset.univ.map Function.Embedding.some) := by
  ext k
  cases k <;> simp

/-- Over the kernel's own semaphores: the send ones and the receive ones. -/
theorem by_own (Φ : Bool × Xf → sProp 𝕄) :
    bigSep Finset.univ Φ = iprop((bigSep Finset.univ fun i : Xf => Φ (false, i)) ∗ bigSep Finset.univ fun i : Xf => Φ (true, i)) := by
  rw [bigSep_univ_prod]
  exact bigSep_univ_eq_bigSepL [false, true] (by decide) (by decide) _

/-- Over all of them: the barrier's besides. -/
theorem by_cells (Φ : Cell → sProp 𝕄) :
    bigSep Finset.univ Φ = iprop(Φ none ∗ (bigSep Finset.univ fun i : Xf => Φ (some (false, i))) ∗ bigSep Finset.univ fun i : Xf => Φ (some (true, i))) := by
  rw [cell_univ, bigSep_insert (by simp), bigSep_map]
  show iprop(Φ none ∗ bigSep Finset.univ fun k : Bool × Xf => Φ (some k)) = _
  rw [by_own]

/-- Handing each member to the neighbour along its axis. -/
def hop {I : Type} (ax : I → Fin 3) : Dev nD × I ≃ Dev nD × I where
  toFun x := (nbr (ax x.2) x.1, x.2)
  invFun x := (nbr (ax x.2) x.1, x.2)
  left_inv x := by dsimp only; rw [nbr_nbr]
  right_inv x := by dsimp only; rw [nbr_nbr]

theorem around {I : Type} [Fintype I] (ax : I → Fin 3) (Φ : Dev nD → I → sProp 𝕄) :
    (bigSep Finset.univ fun c : Dev nD => bigSep Finset.univ fun i : I => Φ c i)
      = bigSep Finset.univ fun c : Dev nD => bigSep Finset.univ fun i : I => Φ (nbr (ax i) c) i := by
  rw [← bigSep_univ_prod (fun x : Dev nD × I => Φ x.1 x.2), bigSep_univ_equiv (hop ax), bigSep_univ_prod]
  rfl

/-! ## The semaphores, and the ghost state minted for them -/

/-- The kernel's own semaphores. -/
def osem (k : Bool × Xf) : SemLoc sig := csem (some k)

def cellsF : Finset (GSem nD τ sig) := Finset.univ.map ⟨cell, cell_injective⟩

def tokOf (x : (Dev nD × Cell) × Fin 3) : GSem nD τ sig × ℕ × Fin 3 := (cell x.1, 0, x.2)
theorem tokOf_injective : Function.Injective tokOf := fun a b h =>
  Prod.ext (cell_injective (congrArg Prod.fst h)) (congrArg (fun y : GSem nD τ sig × ℕ × Fin 3 => y.2.2) h)
def toksF : Finset (GSem nD τ sig × ℕ × Fin 3) := Finset.univ.map ⟨tokOf, tokOf_injective⟩

/-- The tokens minted for device `c`'s semaphores. -/
def minted : sProp 𝕄 := bigSep Finset.univ fun k : Cell => bigSep Finset.univ fun d : Fin 3 => dutyTok ER (cell (c, k)) 0 d

def at0 : sProp 𝕄 := bigSep Finset.univ fun k : Cell => atPos ER (cell (c, k)) 0 ∅ 0

def G : sProp 𝕄 :=
  iprop((bigSep Finset.univ fun k : Cell => roundState ER (Rd xs ws) (cell (c, k)) 0)
    ∗ at0 (F := F) c ∗ (bigSep Finset.univ fun k : Cell => reached ER (cell (c, k)) 0) ∗ minted (F := F) c)

theorem fund_cells : BI.own (ER (initOf cellsF toksF)) ⊢ (|==> bigSep Finset.univ (G xs ws) : sProp 𝕄) := by
  have hX (Φ : GSem nD τ sig → sProp 𝕄) : bigSep cellsF Φ = bigSep Finset.univ fun c : Dev nD => bigSep Finset.univ fun k : Cell => Φ (cell (c, k)) := by
    unfold cellsF; rw [bigSep_map, bigSep_univ_prod]; rfl
  have hT : bigSep toksF (fun x => (dutyTok ER x.1 x.2.1 x.2.2 : sProp 𝕄)) = bigSep Finset.univ fun c : Dev nD => minted (F := F) c := by
    unfold toksF; rw [bigSep_map, bigSep_univ_prod, bigSep_univ_prod]
    rfl
  iintro HX
  imod (Rounds.fund ER (Rd xs ws) cellsF toksF) $$ HX with ⟨Hst, Hr, Hat, Htok⟩
  imodintro
  ihave Hst' := (Entails.of_eq (hX fun g => roundState ER (Rd xs ws) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at0; simp only [bigSep_sep']
  isplitl [Hst']; · iexact Hst'
  isplitl [Hat']; · iexact Hat'
  isplitl [Hr']; · iexact Hr'
  iexact Htok'

/-! ## The tokens dealt around -/

/-- The tokens of the duties device `c` pays. -/
def pays : sProp 𝕄 :=
  iprop((bigSep Finset.univ fun i : Xf => tokS (F := F) c i) ∗ bigSep Finset.univ fun a : Fin 3 => dutyTok ER (barC (nbr a c)) 0 a)

theorem minted_used : minted (F := F) c ⊢ iprop((bigSep Finset.univ fun a : Fin 3 => dutyTok ER (barC c) 0 a)
    ∗ (bigSep Finset.univ fun i : Xf => dutyTok ER (sndC c i) 0 0) ∗ bigSep Finset.univ fun i : Xf => dutyTok ER (rcvC c i) 0 0) := by
  unfold minted
  rw [by_cells]
  exact sep_mono_right ((sep_mono_left (bigSep_mono fun i _ => bigSep_elim (Finset.mem_univ (0 : Fin 3)))).trans
    (sep_mono_right (bigSep_mono fun i _ => bigSep_elim (Finset.mem_univ (0 : Fin 3)))))

theorem toks_around : (bigSep Finset.univ fun c : Dev nD => minted (F := F) c) ⊢ bigSep Finset.univ fun c : Dev nD => pays (F := F) c := by
  have hcomm (A B C : sProp 𝕄) : iprop(A ∗ B ∗ C) ⊢ iprop((B ∗ C) ∗ A) := by
    iintro ⟨H1, H2, H3⟩
    isplitl [H2 H3]
    · isplitl [H2] <;> iassumption
    iexact H1
  refine (bigSep_mono fun c _ => minted_used (F := F) c).trans ?_
  unfold pays tokS
  simp only [bigSep_sep']
  rw [around (fun a : Fin 3 => a) (fun c a => (dutyTok ER (barC c) 0 a : sProp 𝕄)),
    around axX (fun c i => (dutyTok ER (rcvC c i) 0 0 : sProp 𝕄))]
  exact hcomm _ _ _

/-! ## The global step -/

def records (K : Dev nD × Cell → ℕ) : sProp 𝕄 :=
  iprop((bigSep Finset.univ fun ck : Dev nD × Cell => cellInv ER (Rd xs ws) (K ck) (cell ck))
    ∗ bigSep Finset.univ fun ck : Dev nD × Cell => reached ER (cell ck) 0)

instance records_persistent (K : Dev nD × Cell → ℕ) : BI.Persistent (records (F := F) xs ws K) := by unfold records; infer_instance

def G' : sProp 𝕄 := iprop(∃ K, records xs ws K ∗ at0 (F := F) c ∗ pays (F := F) c)

theorem ownSems0_eq : (Pipeline.ownSems0 (Ix := Unit) (Name := ℕ) (U := UU) (Lvl := ℕ) (Val := Elt F) (τ := τ) osem c : sProp 𝕄)
    = iprop((bigSep Finset.univ fun i : Xf => semVal (sndC c i) 0) ∗ bigSep Finset.univ fun i : Xf => semVal (rcvC c i) 0) := by
  unfold Pipeline.ownSems0
  rw [by_own]
  rfl

theorem unscopedSems0_eq : (unscopedSems0 c : sProp 𝕄) = semVal (barC c) 0 := by
  unfold unscopedSems0; rw [bigSep_eq_bigSepL_of_eq [SemLoc.reg bsem] (by decide +kernel) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Cell => semVal (cell (c, k)) 0 : sProp 𝕄) := by
  rw [ownSems0_eq, unscopedSems0_eq, by_cells]
  iintro ⟨⟨HS, HV⟩, HB⟩
  isplitl [HB]; · iexact HB
  isplitl [HS]; · iexact HS
  iexact HV

theorem core_alloc :
    iprop(Pipeline.ownSems0 (Ix := Unit) (Name := ℕ) (U := UU) (Lvl := ℕ) (Val := Elt F) (τ := τ) osem c ∗ unscopedSems0 c ∗ G xs ws c)
      ⊢ |={Set.univ}=> iprop((bigSep Finset.univ fun k : Cell => iprop(∃ κ : ℕ, cellInv ER (Rd xs ws) κ (cell (c, k))))
          ∗ at0 (F := F) c ∗ (bigSep Finset.univ fun k : Cell => reached ER (cell (c, k)) 0) ∗ minted (F := F) c) := by
  unfold G
  iintro ⟨Hos, Hus, Hst, Hrest⟩
  ihave Hv := (sems0_eq (F := F) c) $$ [Hos Hus]
  · isplitl [Hos] <;> iassumption
  imod (show iprop((bigSep Finset.univ fun k : Cell => semVal (cell (c, k)) 0) ∗ bigSep Finset.univ fun k : Cell => roundState ER (Rd xs ws) (cell (c, k)) 0)
      ⊢ (|={Set.univ}=> bigSep Finset.univ fun k : Cell => iprop(∃ κ : ℕ, cellInv ER (Rd xs ws) κ (cell (c, k))) : sProp 𝕄) from by
        rw [← bigSep_sep']
        exact (bigSep_mono fun k _ => (Rounds.body_intro ER (Rd xs ws) (cell (c, k))).trans inv_alloc).trans (bigSep_fupd _ _)) $$ [Hv Hst] with Hinv
  · isplitl [Hv] <;> iassumption
  imodintro
  isplitl [Hinv]; · iexact Hinv
  iexact Hrest

/-- Persistent facts can be used at every member. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd xs ws) κ (cell (c, k))))
          ∗ at0 (F := F) c ∗ (bigSep Finset.univ fun k : Cell => reached ER (cell (c, k)) 0) ∗ minted (F := F) c) : sProp 𝕄)
      ⊢ bigSep Finset.univ (G' xs ws) := by
  rw [bigSep_sep', bigSep_sep', bigSep_sep', ← bigSep_univ_prod (fun ck : Dev nD × Cell => iprop(∃ κ : ℕ, cellInv ER (Rd xs ws) κ (cell ck))),
    ← bigSep_univ_prod (fun ck : Dev nD × Cell => (reached ER (cell ck) 0 : sProp 𝕄))]
  iintro ⟨HI, Hat, #HR, Htok⟩
  ihave HK := (BI.bigSep_exists_pi Finset.univ (fun (ck : Dev nD × Cell) (κ : ℕ) => (cellInv ER (Rd xs ws) κ (cell ck) : sProp 𝕄))) $$ HI
  icases HK with ⟨%K, #HI⟩
  ihave Htk := (toks_around (F := F)) $$ Htok
  have hmerge := (bigSep_sep' Finset.univ (fun c : Dev nD => at0 (F := F) c) (fun c : Dev nD => pays (F := F) c))
  have hG : ∀ c ∈ (Finset.univ : Finset (Dev nD)), iprop(records xs ws K ∗ at0 (F := F) c ∗ pays (F := F) c) ⊢ G' xs ws c := fun c _ => by
    unfold G'
    iintro H
    iexists K
    iexact H
  iapply (with_records (R := records xs ws K) hG)
  isplitr
  · unfold records; isplitl; · iexact HI
    iexact HR
  · iapply (Entails.of_eq hmerge.symm)
    isplitl [Hat]; · iexact Hat
    iexact Htk

/-- All semaphores of all devices at once become invariants. -/
theorem glob : (bigSep Finset.univ fun c => iprop(Pipeline.ownSems0 (Ix := Unit) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## The credit -/

theorem cell_eq_iff {a b : Dev nD × Cell} : Iff (cell a = cell b) (a = b) := ⟨fun h => cell_injective h, fun h => h ▸ rfl⟩

theorem nbr_eq_iff (a : Fin 3) (c d : Dev nD) : Iff (c = nbr a d) (d = nbr a c) :=
  ⟨fun h => by rw [h, nbr_nbr], fun h => by rw [h, nbr_nbr]⟩

/-- A signal to a neighbour's barrier is owed to that barrier and to no other semaphore. -/
theorem tally_bar (a : Fin 3) (d c : Dev nD) : (tallyAt (barC (nbr a d)) () 1 : CellTallies nD τ sig Unit) (barC c) () = if d = nbr a c then 1 else 0 := by
  rw [tallyAt_apply]
  refine if_congr ⟨fun h => (nbr_eq_iff a c d).1 (congrArg Prod.fst (cell_injective (a₁ := (c, none)) (a₂ := (nbr a d, none)) h.1)),
    fun h => ⟨by rw [(nbr_eq_iff a c d).2 h], rfl⟩⟩ rfl rfl
theorem tally_bar_rcv (a : Fin 3) (d c : Dev nD) (i : Xf) : (tallyAt (barC (nbr a d)) () 1 : CellTallies nD τ sig Unit) (rcvC c i) () = 0 := by
  rw [tallyAt_apply]
  exact if_neg fun h => by
    have := congrArg Prod.snd (cell_injective (a₁ := (c, some (true, i))) (a₂ := (nbr a d, none)) h.1)
    exact absurd this (by simp)

theorem Om_bar (d c : Dev nD) (l : List Xf) : Om d l (barC c) () = 0 := by
  by_contra h
  obtain ⟨i, _, hg⟩ := Om_pos (Nat.pos_of_ne_zero h)
  have := congrArg Prod.snd (cell_injective (a₁ := (c, none)) (a₂ := (nbr (axX i) d, some (true, i))) hg)
  exact absurd this (by simp)

theorem Om_rcv (d c : Dev nD) (i : Xf) : ∀ l : List Xf, l.Nodup → Om d l (rcvC c i) () = if i ∈ l ∧ d = nbr (axX i) c then N i else 0
  | [], _ => by rw [if_neg (by simp)]; rfl
  | j :: l, hl => by
    rw [Om_cons, Pi.add_apply, Finsupp.add_apply, Om_rcv d c i l (List.nodup_cons.1 hl).2, tallyAt_apply]
    have hc : rcvC c i = rcvC (nbr (axX j) d) j → i = j ∧ d = nbr (axX i) c := fun h => by
      have h' := cell_injective (a₁ := (c, some (true, i))) (a₂ := (nbr (axX j) d, some (true, j))) h
      have hij : i = j := congrArg Prod.snd (Option.some.inj (congrArg Prod.snd h'))
      subst hij
      exact ⟨rfl, (nbr_eq_iff _ _ _).1 (congrArg Prod.fst h')⟩
    by_cases hij : i = j
    · subst hij
      rw [if_neg (fun h => (List.nodup_cons.1 hl).1 h.1), Nat.zero_add]
      exact if_congr ⟨fun h => ⟨List.mem_cons_self, (hc h.1).2⟩, fun h => ⟨by rw [h.2, nbr_nbr], rfl⟩⟩ rfl rfl
    · rw [if_neg (c := rcvC c i = _ ∧ _) (fun h => hij (hc h.1).1), Nat.add_zero]
      exact if_congr ⟨fun h => ⟨List.mem_cons_of_mem _ h.1, h.2⟩, fun h => ⟨(List.mem_cons.1 h.1).resolve_left hij, h.2⟩⟩ rfl rfl

theorem owed_bar (d c : Dev nD) : O₀ d (barC c) () = (if d = nbr 2 c then 1 else 0) + (if d = nbr 1 c then 1 else 0) + (if d = nbr 0 c then 1 else 0) := by
  unfold O₀ O₁ O₂
  simp only [Pi.add_apply, Finsupp.add_apply, tally_bar, Om_bar, Nat.zero_add]

theorem owed_rcv (d c : Dev nD) (i : Xf) : O₀ d (rcvC c i) () = if d = nbr (axX i) c then N i else 0 := by
  unfold O₀ O₁ O₂
  simp only [Pi.add_apply, Finsupp.add_apply, tally_bar_rcv, Nat.add_zero]
  rw [Om_rcv d c i sends (by decide)]
  have hmem : ∀ i : Xf, i ∈ sends := by decide
  exact if_congr ⟨fun h => h.2, fun h => ⟨hmem i, h⟩⟩ rfl rfl

theorem launch_bar : tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem launch_rcv (i : Xf) : tallyOn (rcvC c i) (launchCredit (Pipeline.owing O₀) 0 (rcvC c i)) = (tallyAt (rcvC c i) () (N i) : CellTallies nD τ sig Unit) := by
  unfold tallyAt; refine congrArg _ (Finsupp.ext fun u => ?_); cases u
  rw [Pipeline.launchCredit_owing, Finsupp.single_eq_same, Finset.sum_congr rfl fun d _ => owed_rcv d c i,
    Finset.sum_ite_eq' Finset.univ (nbr (axX i) c) fun _ => N i, if_pos (Finset.mem_univ _)]

theorem creds : (Pipeline.launchCred O₀ c : sProp 𝕄) ⊢ iprop(cred (tallyAt (barC c) () 3) ∗ bigSep Finset.univ fun i : Xf => cred (tallyAt (rcvC c i) () (N i))) := by
  unfold Pipeline.launchCred
  refine (bigSep_subset (Finset.subset_univ (Finset.univ.map ⟨csem, csem_injective⟩))).trans ?_
  have hV : (bigSep Finset.univ fun i : Xf => (cred (tallyOn (rcvC c i) (launchCredit (Pipeline.owing O₀) 0 (rcvC c i))) : sProp 𝕄))
      = bigSep Finset.univ fun i : Xf => cred (tallyAt (rcvC c i) () (N i)) := bigSep_congr fun i _ => congrArg _ (launch_rcv c i)
  have hdrop (A B C : sProp 𝕄) : iprop(A ∗ B ∗ C) ⊢ iprop(A ∗ C) := by
    iintro ⟨H1, -, H3⟩
    isplitl [H1] <;> iassumption
  rw [bigSep_map, by_cells, ← launch_bar c, ← hV]
  exact hdrop _ _ _

/-- From what the launch deals, what the body starts from. -/
theorem deal : iprop(levAts L lv ∗ Pipeline.launchCred O₀ c ∗ G' xs ws c) ⊢ (iprop(∃ K, know xs ws K ∗ dealt (F := F) c) : sProp 𝕄) := by
  have haw : bigSep Finset.univ (awaits (F := F) c) = iprop((bigSep Finset.univ fun i : Xf => cred (tallyAt (rcvC c i) () (N i))) ∗ bigSep Finset.univ fun i : Xf => atPos ER (rcvC c i) 0 ∅ 0) :=
    bigSep_sep' Finset.univ (fun i : Xf => (cred (tallyAt (rcvC c i) () (N i)) : sProp 𝕄)) (fun i : Xf => (atPos ER (rcvC c i) 0 ∅ 0 : sProp 𝕄))
  unfold G' at0 pays records
  rw [by_cells]
  iintro ⟨#Hlev, Hcr, %K, ⟨#HI, #HR⟩, ⟨HaB, HaS, HaV⟩, Htok, Hbt⟩
  ihave Hc := (creds (F := F) c) $$ Hcr
  icases Hc with ⟨HcB, HcV⟩
  iexists K
  isplitr
  · unfold know
    isplitr; · iexact HI
    isplitr; · iexact HR
    iexact Hlev
  unfold dealt
  isplitl [Htok]; · iexact Htok
  isplitl [Hbt]; · iexact Hbt
  isplitl [HcB]; · iexact HcB
  isplitl [HaB]; · iexact HaB
  isplitl [HcV HaV]
  · iapply (Entails.of_eq haw.symm)
    isplitl [HcV]; · iexact HcV
    iexact HaV
  iexact HaS

end Cert.AllReduce

end
-- ==== Proof.Launch.lean ====
/-
The run of the whole mesh.
-/
module

public import proofs.«01_k».proof.Proof.Setup
public import proofs.«01_k».proof.Proof.Gen.KernelIdeal.Points
public import proofs.«01_k».proof.Proof.Gen.KernelIdeal.Frame
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks of the activations and of the weights that the devices are given. -/
def xsOf (c : Dev nD) : Vec F S1024x128 .bf16 := (win0_0.blk (0 : Fin 1)).view.read (Elt F) (m ((c : Thread nD τ).loc main_arg0))
def wsOf (c : Dev nD) : Vec F S128x1024 .bf16 := (win0_1.blk (0 : Fin 1)).view.read (Elt F) (m ((c : Thread nD τ).loc main_arg1))

/-- Before the body: the records, what is dealt, and the buffers at any contents. -/
def Φ₀ (c : Dev nD) : sProp 𝕄 := iprop((∃ K, know (xsOf m) (wsOf m) K ∗ dealt (F := F) c) ∗ buffers (F := F) c)
/-- After it: every semaphore at zero, and the buffers. -/
def Φ₁ (c : Dev nD) : sProp 𝕄 := iprop(zeros (F := F) c ∗ buffers (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsOf m c
    | ⟨1, _⟩ => wsOf m c
    | ⟨2, _⟩ => outF (xsOf m) (wsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body -/

def bodyPre (c : Dev nD) : sProp 𝕄 :=
  iprop(Φ₀ m c ∗ (dats m ρ 0 c).owesAt () t0_0.castSucc
    ∗ (∃ d, ownsTc c mx fullShare ((dats m ρ 0 c).before (0 : Fin 3) t0_0 d))
    ∗ (∃ d, ownsTc c mw fullShare ((dats m ρ 0 c).before (1 : Fin 3) t0_0 d))
    ∗ (∃ d, ownsTc c mo fullShare ((dats m ρ 0 c).before (2 : Fin 3) t0_0 d)))

def bodyPost (c : Dev nD) : sProp 𝕄 :=
  iprop(Φ₁ c ∗ (dats m ρ 0 c).owesAt () t0_0.succ ∗ ownsTc c mx fullShare (xsOf m c) ∗ ownsTc c mw fullShare (wsOf m c)
    ∗ ownsTc c mo fullShare (outF (xsOf m) (wsOf m) c))

theorem before_x (c : Dev nD) (d) : (dats m ρ 0 c).before (0 : Fin 3) t0_0 d = xsOf m c := by
  unfold Dat.before; rw [if_pos (fetch0_0 t0_0)]; rfl
theorem before_w (c : Dev nD) (d) : (dats m ρ 0 c).before (1 : Fin 3) t0_0 d = wsOf m c := by
  unfold Dat.before; rw [if_pos (fetch0_1 t0_0)]; rfl

theorem sound_body (c : Dev nD) : bodyPre m ρ c ⊢ run c (fun _ => bodyPost m ρ c) flat := by
  unfold bodyPre Φ₀
  iintro ⟨⟨⟨%K, HK, Hd⟩, Hb⟩, Ho, ⟨%d0, Hx⟩, ⟨%d1, Hw⟩, ⟨%d2, Hout⟩⟩
  rw [before_x, before_w]
  unfold Dat.owesAt Pipeline.owesWithin
  icases Ho with ⟨%W, %hW, HO⟩
  rw [show (dats m ρ 0 c).owed t0_0.castSucc = O₀ c from rfl]
  iapply (run_body (xsOf m) (wsOf m) K c (Q := fun _ => bodyPost m ρ c)) $$ [HK Hd Hb HO Hx Hw Hout]
  · isplitl [HK]; · iexact HK
    isplitl [Hd]; · iexact Hd
    isplitl [Hb]; · iexact Hb
    isplitl [HO]; · iexists W; iexact HO
    isplitl [Hx Hw]
    · unfold inputs
      isplitl [Hx]; · iexact Hx
      iexact Hw
    iexists _; iexact Hout
  iintro Hz Hb ⟨%W', HO⟩ HI Hout
  unfold bodyPost Φ₁ inputs Dat.owesAt Pipeline.owesWithin
  rw [show (dats m ρ 0 c).owed t0_0.succ = 0 from rfl]
  icases HI with ⟨Hx, Hw⟩
  isplitl [Hz Hb]
  · isplitl [Hz]; · iexact Hz
    iexact Hb
  isplitl [HO]
  · iexists W'
    isplitr; · ipureintro; exact fun _ _ => Or.inl trivial
    iexact HO
  isplitl [Hx]; · iexact Hx
  isplitl [Hw]; · iexact Hw
  iexact Hout

/-- The program the launch runs is the body. -/
theorem prog_eq (t : Fin cfg0.N) : defs₀ (F := F) .tc cfg0.body (cfg0.bodyArgs t (cfg0.slots t)) = flat := by
  refine Eq.trans ?_ (body_eq t)
  unfold defs₀ Defs.onTc
  rfl

set_option maxRecDepth 16384 in
theorem body_obligation (c : Dev nD) : BodyObligation (dats (F := F) m ρ 0 c) (defs₀ (F := F)) 𝒱₀ () Set.univ := fun t => by
  rw [fin_N0 t, bigSep_W0, bigSep_W0]
  have h := sound_body m ρ c
  rw [← prog_eq t0_0] at h
  exact BIBase.Entails.trans (Entails.of_eq (show _ = bodyPre m ρ c from rfl)) (BIBase.Entails.trans h (Entails.of_eq (by congr 1)))

/-! ## The launch -/

theorem ownSemFacts : Pipeline.OwnSemFacts cfg0.spec osem where
  isScoped := by decide +kernel
  inj := fun k k' h => Option.some.inj (csem_injective h)
  disj := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf cellsF toksF)

def start (c : Dev nD) : sProp 𝕄 := iprop(∃ K, know (xsOf m) (wsOf m) K ∗ dealt (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsOf m) (wsOf m) c)
      ⊢ |={Set.univ}=> iprop(start m c ∗ emp) := by
  iintro ⟨-, Hlev, Hcr, -, HG⟩
  imodintro
  isplitl
  · unfold start
    iapply (deal (xsOf m) (wsOf m) c)
    isplitl [Hlev]; · iexact Hlev
    isplitl [Hcr]; · iexact Hcr
    iexact HG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scratch_eq, scratch_buffers]
  unfold Φ₀ start
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scratch_eq, scratch_buffers, ownSems0_eq, unscopedSems0_eq]
  unfold Φ₁ zeros
  iintro ⟨⟨HB, HS, HV⟩, Hr⟩
  isplitl [HB]; · iexact HB
  isplitl [HS HV]
  · isplitl [HS]; · iexact HS
    iexact HV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array on device `c` after the run. -/
def finalA (c : Dev nD) (w : Fin cfg0.W) : Buf (Elt F) ((cfg0.win w).arr.view.loc (c : Thread nD τ)) := (dats m ρ 0 c).arrAt w cfg0.N

set_option maxRecDepth 16384 in
/-- For any float values and any memory with the counters at zero, every execution of the program on the mesh
    ends, with the arrays of the windows at those contents and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xsOf m) (wsOf m)) (G' := G' (xsOf m) (wsOf m)) (u₀ := u₀)
    (hu₀ := by
      unfold u₀
      iintro Hu
      ihave H := (ownU_pair _ _) $$ Hu
      icases H with ⟨HP, HX⟩
      imod (fund_cells (xsOf m) (wsOf m)) $$ HX with HG
      imodintro
      isplitl [HP] <;> iassumption)
    (hglob := glob (xsOf m) (wsOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.AllReduce

end
-- ==== Proof.Values.lean ====
/-
What the kernel computes, read at exact values: every device's result is the product of the whole arrays.
-/
module

public import proofs.«01_k».proof.Proof.Body
public import Idealize.ShloMosaic.Lib.MatmulPlain
public import Idealize.ShloMosaic.Lib.Layout
public import Idealize.ShloMosaic.Lib.Pipeline.Value
public import Idealize.ShloMosaic.PureOps.Ideal.Laws
public import Mathlib.Tactic.Abel
public import Mathlib.Tactic.FinCases

@[expose] public section

noncomputable section

namespace Cert.AllReduce

open Cert.KernelIdeal Cert.KernelIdeal.Gen
open Idealize.ShloMosaic Idealize.ShloMosaic.TcCoe Idealize.ShloMosaic.ValueIdx
open Idealize.ShloMosaic.Pipeline
open scoped BigOperators

/-! ## The operations at an index -/

theorem pay4_apply (x : Vec Ideal S512x128 .bf16) (w : Vec Ideal S128x384 .bf16) (r : Fin 512) (q : Fin 384) :
    (k0_pay4 x w (ix2 r q) : EReal) = ∑ k : Fin 128, (x (ix2 r k) : EReal) * w (ix2 k q) := by
  unfold k0_pay4
  rw [shapeCast_self, shapeCast_self]
  refine (Ideal.matmul_plain_apply (M := 512) (K := 128) (N := 384) none x w _ r q).trans ?_
  exact (congrArg (· + _) Ideal.ofBits_zero_f32).trans (zero_add _)
theorem pay5_apply (x : Vec Ideal S512x128 .bf16) (w : Vec Ideal S128x384 .bf16) (r : Fin 512) (q : Fin 384) :
    (k0_pay5 x w (ix2 r q) : EReal) = ∑ k : Fin 128, (x (ix2 r k) : EReal) * w (ix2 k q) := by
  unfold k0_pay5
  rw [shapeCast_self, shapeCast_self]
  refine (Ideal.matmul_plain_apply (M := 512) (K := 128) (N := 384) none x w _ r q).trans ?_
  exact (congrArg (· + _) Ideal.ofBits_zero_f32).trans (zero_add _)
theorem pay6_apply (x : Vec Ideal S512x128 .bf16) (w : Vec Ideal S128x256 .bf16) (r : Fin 512) (q : Fin 256) :
    (k0_pay6 x w (ix2 r q) : EReal) = ∑ k : Fin 128, (x (ix2 r k) : EReal) * w (ix2 k q) := by
  unfold k0_pay6
  rw [shapeCast_self, shapeCast_self]
  refine (Ideal.matmul_plain_apply (M := 512) (K := 128) (N := 256) none x w _ r q).trans ?_
  exact (congrArg (· + _) Ideal.ofBits_zero_f32).trans (zero_add _)
theorem pay7_apply (a : Vec Ideal S128x384 .f32) (b : Vec Ideal S128x384 .bf16) (j : S128x384.Idx) :
    (k0_pay7 a b j : EReal) = a j + b j := by
  unfold k0_pay7
  rw [shapeCast_self]
  rfl
theorem pay9_apply (a : Vec Ideal S128x384 .f32) (b : Vec Ideal S128x384 .bf16) (j : S128x384.Idx) :
    (k0_pay9 a b j : EReal) = a j + b j := by
  unfold k0_pay9
  rw [shapeCast_self]
  rfl
theorem pay11_apply (a : Vec Ideal S128x256 .f32) (b : Vec Ideal S128x256 .bf16) (j : S128x256.Idx) :
    (k0_pay11 a b j : EReal) = a j + b j := by
  unfold k0_pay11
  rw [shapeCast_self]
  rfl

theorem pprod_apply : ∀ (p : Fin 3) (x : Vec Ideal S512x128 .bf16) (w : Vec Ideal (SC p) .bf16) (j : (SH p).Idx),
    (pprod p x w j : EReal) = ∑ k : Fin 128, (x (ix2 (n0 := 512) (j 0) k) : EReal) * w (ix2 (n1 := C p) k (j 1))
  | 0, x, w, j => (congrArg (k0_pay4 x w) (eq_ix2 j)).trans (pay4_apply x w (j 0) (j 1))
  | 1, x, w, j => (congrArg (k0_pay5 x w) (eq_ix2 j)).trans (pay5_apply x w (j 0) (j 1))
  | 2, x, w, j => (congrArg (k0_pay6 x w) (eq_ix2 j)).trans (pay6_apply x w (j 0) (j 1))

/-- The product as sent is the product: at exact values a conversion changes nothing. -/
theorem pprodB_eq : ∀ (p : Fin 3) (x : Vec Ideal S512x128 .bf16) (w : Vec Ideal (SC p) .bf16) (j : (SH p).Idx),
    (pprodB p x w j : EReal) = pprod p x w j
  | 0, x, w, j => by show k0_pay1 x w j = k0_pay4 x w j; unfold k0_pay1 k0_pay4; rw [shapeCast_self]; rfl
  | 1, x, w, j => by show k0_pay2 x w j = k0_pay5 x w j; unfold k0_pay2 k0_pay5; rw [shapeCast_self]; rfl
  | 2, x, w, j => by show k0_pay3 x w j = k0_pay6 x w j; unfold k0_pay3 k0_pay6; rw [shapeCast_self]; rfl

theorem psum_apply : ∀ (p : Fin 3) (a : Vec Ideal (SC p) .f32) (b : Vec Ideal (SC p) .bf16) (j : (SC p).Idx),
    (psum p a b j : EReal) = a j + b j
  | 0, a, b, j => pay7_apply a b j
  | 1, a, b, j => pay9_apply a b j
  | 2, a, b, j => pay11_apply a b j

theorem psumB_apply : ∀ (p : Fin 3) (a : Vec Ideal (SC p) .f32) (b : Vec Ideal (SC p) .bf16) (j : (SC p).Idx),
    (psumB p a b j : EReal) = a j + b j
  | 0, a, b, j => by show k0_pay8 a b j = _; unfold k0_pay8; rw [shapeCast_self]; exact psum_apply 0 a b j
  | 1, a, b, j => by show k0_pay10 a b j = _; unfold k0_pay10; rw [shapeCast_self]; exact psum_apply 1 a b j
  | 2, a, b, j => by show k0_pay12 a b j = _; unfold k0_pay12; rw [shapeCast_self]; exact psum_apply 2 a b j

theorem pext_apply : ∀ (p : Fin 3) (b : Vec Ideal (SC p) .bf16) (j : (SC p).Idx), (pext p b j : EReal) = b j
  | 0, b, j => rfl
  | 1, b, j => rfl
  | 2, b, j => rfl

/-! ## Geometry -/

theorem rC_val0 (p : Fin 3) (h : Fin 4) (j : (SC p).Idx) : ((rC p h).emb j (0 : Fin 2)).val = 128 * h.val + (j (0 : Fin 2)).val := by
  rw [Rect.emb_apply]; simp
theorem rC_val1 (p : Fin 3) (h : Fin 4) (j : (SC p).Idx) : ((rC p h).emb j (1 : Fin 2)).val = (j (1 : Fin 2)).val := by
  rw [Rect.emb_apply]; simp

theorem send_first : ∀ (p : Fin 3) (c : Fin 8), send p (nbr (ax p 0) c) = keep p c := by decide
theorem keep_second : ∀ (p : Fin 3) (c : Fin 8), keep p (nbr (ax p 1) c) = keep p c := by decide
theorem keep_third : ∀ (p : Fin 3) (c : Fin 8), keep p (nbr (ax p 2) c) = keep p c := by decide
theorem keep_last : ∀ (p : Fin 3) (c : Fin 8), keep p (nbr (ax p 3) c) = send p c := by decide

/-- The exchanges along the three axes bring in every device once. -/
theorem cube_sum {M : Type} [AddCommMonoid M] (f : Fin 8 → M) (p : Fin 3) (c : Fin 8) :
    ((f c + f (nbr (ax p 0) c)) + (f (nbr (ax p 1) c) + f (nbr (ax p 0) (nbr (ax p 1) c))))
      + ((f (nbr (ax p 2) c) + f (nbr (ax p 0) (nbr (ax p 2) c)))
        + (f (nbr (ax p 1) (nbr (ax p 2) c)) + f (nbr (ax p 0) (nbr (ax p 1) (nbr (ax p 2) c))))) = ∑ d, f d := by
  rw [Fin.sum_univ_eight]
  fin_cases p <;> fin_cases c <;> simp [nbr, ax] <;> abel

/-! ## The running sums -/

section Sums

variable (xs : Dev nD → Vec Ideal S1024x128 .bf16) (ws : Dev nD → Vec Ideal S128x1024 .bf16)

/-- What device `c`'s blocks contribute to an element of the product. -/
def contrib (y : S1024x1024.Idx) (c : Dev nD) : EReal :=
  ∑ k : Fin 128, (xs c (ix2 (n0 := 1024) (y 0) k) : EReal) * ws c (ix2 (n1 := 1024) k (y 1))

theorem kept_apply (c : Dev nD) (p : Fin 3) (j : (SH p).Idx) (y : S1024x1024.Idx)
    (h0 : (y (0 : Fin 2)).val = keep p c + (j (0 : Fin 2)).val) (h1 : (y (1 : Fin 2)).val = c0 p + (j (1 : Fin 2)).val) :
    (kept xs ws c p j : EReal) = contrib xs ws y c := by
  unfold kept contrib
  rw [pprod_apply]
  refine Finset.sum_congr rfl fun k _ => ?_
  congr 2
  · refine funext fun a => Fin.ext ?_
    rw [Rect.emb_apply]
    match a with
    | ⟨0, _⟩ => simp [offXk_eq, h0]
    | ⟨1, _⟩ => simp [offXk_eq]
  · refine funext fun a => Fin.ext ?_
    rw [Rect.emb_apply]
    match a with
    | ⟨0, _⟩ => simp
    | ⟨1, _⟩ => simp [h1]

theorem sent_apply (c : Dev nD) (p : Fin 3) (j : (SH p).Idx) (y : S1024x1024.Idx)
    (h0 : (y (0 : Fin 2)).val = send p c + (j (0 : Fin 2)).val) (h1 : (y (1 : Fin 2)).val = c0 p + (j (1 : Fin 2)).val) :
    (sentH xs ws c p j : EReal) = contrib xs ws y c := by
  unfold sentH contrib
  rw [pprodB_eq, pprod_apply]
  refine Finset.sum_congr rfl fun k _ => ?_
  congr 2
  · refine funext fun a => Fin.ext ?_
    rw [Rect.emb_apply]
    match a with
    | ⟨0, _⟩ => simp [offXs_eq, h0]
    | ⟨1, _⟩ => simp [offXs_eq]
  · refine funext fun a => Fin.ext ?_
    rw [Rect.emb_apply]
    match a with
    | ⟨0, _⟩ => simp
    | ⟨1, _⟩ => simp [h1]

/-- A row and a column of the result, at index `j` of chunk `h` of the half of part `p` whose first row is `b`. -/
def Place (b : ℕ) (p : Fin 3) (h : Fin 4) (j : (SC p).Idx) (y : S1024x1024.Idx) : Prop :=
  (y (0 : Fin 2)).val = b + 128 * h.val + (j (0 : Fin 2)).val ∧ (y (1 : Fin 2)).val = c0 p + (j (1 : Fin 2)).val

theorem st_zero_kept {c : Dev nD} {p : Fin 3} {h : Fin 4} {j : (SC p).Idx} {y : S1024x1024.Idx} (hy : Place (keep p c) p h j y) :
    ((st xs ws p h 0 c).1 j : EReal) = contrib xs ws y c :=
  kept_apply xs ws c p _ y (by rw [rC_val0, hy.1, Nat.add_assoc]) (by rw [rC_val1, hy.2])

theorem st_zero_sent {c : Dev nD} {p : Fin 3} {h : Fin 4} {j : (SC p).Idx} {y : S1024x1024.Idx} (hy : Place (send p c) p h j y) :
    ((st xs ws p h 0 c).2 j : EReal) = contrib xs ws y c :=
  sent_apply xs ws c p _ y (by rw [rC_val0, hy.1, Nat.add_assoc]) (by rw [rC_val1, hy.2])

/-- After an exchange the sum kept is the sum before it plus what came in, -/
theorem st_succ_fst (p : Fin 3) (h : Fin 4) (w : ℕ) (c : Dev nD) (j : (SC p).Idx) :
    ((st xs ws p h (w + 1) c).1 j : EReal) = (st xs ws p h w c).1 j + (st xs ws p h w (nbr (ax p (Fin.ofNat 4 w)) c)).2 j :=
  psum_apply p _ _ j
/-- and what is sent next is the same. -/
theorem st_succ_snd (p : Fin 3) (h : Fin 4) (w : ℕ) (c : Dev nD) (j : (SC p).Idx) :
    ((st xs ws p h (w + 1) c).2 j : EReal) = (st xs ws p h (w + 1) c).1 j :=
  (psumB_apply p _ _ j).trans (psum_apply p _ _ j).symm

theorem st_one {c : Dev nD} {p : Fin 3} {h : Fin 4} {j : (SC p).Idx} {y : S1024x1024.Idx} (hy : Place (keep p c) p h j y) :
    ((st xs ws p h 1 c).1 j : EReal) = contrib xs ws y c + contrib xs ws y (nbr (ax p 0) c) := by
  rw [st_succ_fst, st_zero_kept xs ws hy]
  exact congrArg (contrib xs ws y c + ·) (st_zero_sent xs ws (by rw [show Fin.ofNat 4 0 = 0 from rfl, send_first]; exact hy))

theorem st_two {c : Dev nD} {p : Fin 3} {h : Fin 4} {j : (SC p).Idx} {y : S1024x1024.Idx} (hy : Place (keep p c) p h j y) :
    ((st xs ws p h 2 c).1 j : EReal) = (contrib xs ws y c + contrib xs ws y (nbr (ax p 0) c))
      + (contrib xs ws y (nbr (ax p 1) c) + contrib xs ws y (nbr (ax p 0) (nbr (ax p 1) c))) := by
  rw [st_succ_fst, st_succ_snd, st_one xs ws hy, show Fin.ofNat 4 1 = 1 from rfl,
    st_one xs ws (c := nbr (ax p 1) c) (by rw [keep_second]; exact hy)]

/-- After the three exchanges a chunk kept is the sum over every device. -/
theorem st_three {c : Dev nD} {p : Fin 3} {h : Fin 4} {j : (SC p).Idx} {y : S1024x1024.Idx} (hy : Place (keep p c) p h j y) :
    ((st xs ws p h 3 c).1 j : EReal) = ∑ d : Fin 8, contrib xs ws y d := by
  rw [st_succ_fst, st_succ_snd, st_two xs ws hy, show Fin.ofNat 4 2 = 2 from rfl,
    st_two xs ws (c := nbr (ax p 2) c) (by rw [keep_third]; exact hy)]
  exact cube_sum (contrib xs ws y) p c

/-- Every tile of the result is the sum over every device. -/
theorem tile_value (c : Dev nD) (t : Tile) (j : (SC t.2.2).Idx) :
    (tileV xs ws c t j : EReal) = ∑ d : Fin 8, contrib xs ws ((rT c t).emb j) d := by
  have hy : Place (half t.1 t.2.2 c) t.2.2 t.2.1 j ((rT c t).emb j) := by
    constructor <;> rw [Rect.emb_apply] <;> simp [offT_eq]
  obtain ⟨b, h, p⟩ := t
  cases b
  · exact st_three xs ws hy
  · refine (pext_apply p _ j).trans ?_
    refine (st_succ_snd xs ws p h 2 (nbr (ax p 3) c) j).trans ?_
    exact st_three xs ws (by rw [keep_last]; exact hy)

/-- The result of a device is the sum over every device, whichever the device. -/
theorem outF_value (c : Dev nD) (y : S1024x1024.Idx) : (outF xs ws c y : EReal) = ∑ d : Fin 8, contrib xs ws y d := by
  obtain ⟨t, -, ht⟩ := Finset.mem_biUnion.mp (rT_cover c ▸ Finset.mem_univ y)
  rw [← Rect.map_emb_univ] at ht
  obtain ⟨j, -, rfl⟩ := Finset.mem_map.mp ht
  rw [outF_tile]
  exact tile_value xs ws c t j

end Sums

/-! ## The whole product -/

/-- A sum over 1024 positions is the sum over 8 blocks of 128. -/
theorem sum_blocks {M : Type} [AddCommMonoid M] (g : Fin 1024 → M) :
    ∑ K, g K = ∑ d : Fin 8, ∑ k : Fin 128, g ⟨d.val * 128 + k.val, by omega⟩ := by
  rw [← Equiv.sum_comp (finProdFinEquiv (m := 8) (n := 128)) g, Fintype.sum_prod_type]
  refine Finset.sum_congr rfl fun d _ => Finset.sum_congr rfl fun k _ => congrArg g (Fin.ext ?_)
  show k.val + 128 * d.val = d.val * 128 + k.val
  omega

/-- On blocks of the whole arrays the devices' contributions add up to the product of the arrays. -/
theorem product (X W : S1024x1024.Idx → EReal) (xs : Dev nD → Vec Ideal S1024x128 .bf16) (ws : Dev nD → Vec Ideal S128x1024 .bf16)
    (hx : ∀ c, xs c = Layout.block ⟨2, ![1024, 128]⟩ ⟨2, ![1024, 1024]⟩ 1 8 c X)
    (hw : ∀ c, ws c = Layout.block ⟨2, ![128, 1024]⟩ ⟨2, ![1024, 1024]⟩ 0 8 c W) (y : S1024x1024.Idx) :
    ∑ d : Fin 8, contrib xs ws y d = ∑ K : Fin 1024, X (ix2 (n0 := 1024) (y 0) K) * W (ix2 (n1 := 1024) K (y 1)) := by
  rw [sum_blocks]
  refine Finset.sum_congr rfl fun d _ => Finset.sum_congr rfl fun k _ => ?_
  rw [hx, hw, Layout.block_apply, Layout.block_apply]
  congr 2
  · funext a; match a with | ⟨0, _⟩ => rfl | ⟨1, _⟩ => rfl
  · funext a; match a with | ⟨0, _⟩ => rfl | ⟨1, _⟩ => rfl

end Cert.AllReduce

end
-- ==== Proof.lean ====
/-
The certificate: the frames of the three programs, and that the kernel on its eight devices and the
reference on one compute the same product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Pipeline.ValueKit.Geometry
public import Idealize.ShloMosaic.Adequacy
public import Idealize.ShloMosaic.Init

@[expose] public section

noncomputable section

namespace Cert.Proof

open Idealize.ShloMosaic Idealize.SL.Sem

/-- What the run of the mesh says of the arguments, at any float values. -/
theorem frame_kernelIdeal : Cert.quiescent_KernelIdeal := fun m ρ _ =>
  (θ_run Cert.KernelIdeal.defs _ _).mono
    (fun _ h => ⟨fun c => ⟨(h.1 c 0).trans (Cert.AllReduce.finalA_x m ρ c), (h.1 c 1).trans (Cert.AllReduce.finalA_w m ρ c)⟩, h.2⟩)
    (Cert.AllReduce.run_main (F := Ideal) m ρ)

/-- The kernel as printed and the one read at ideal values are the same text. -/
theorem run_same (s : MemSt Cert.KernelIdeal.nD Cert.KernelIdeal.τ Cert.KernelIdeal.sig (Elt Bits))
    (P : PUnit × MemSt Cert.KernelIdeal.nD Cert.KernelIdeal.τ Cert.KernelIdeal.sig (Elt Bits) → Prop) :
    θ_run (Cert.Kernel.defs (F := Bits)) (onTc (τ := Cert.Kernel.τ) (Cert.Kernel.main (F := Bits))) s P
      = θ_run (Cert.KernelIdeal.defs (F := Bits)) (onTc (τ := Cert.KernelIdeal.τ) (Cert.KernelIdeal.main (F := Bits))) s P := by
  chain_rfl

theorem frame_kernel : Cert.quiescent_Kernel := fun m ρ _ =>
  (run_same ⟨m, fun _ => 0, ρ⟩ _).mpr ((θ_run Cert.KernelIdeal.defs _ _).mono
    (fun _ h => ⟨fun c => ⟨(h.1 c 0).trans (Cert.AllReduce.finalA_x m ρ c), (h.1 c 1).trans (Cert.AllReduce.finalA_w m ρ c)⟩, h.2⟩)
    (Cert.AllReduce.run_main (F := Bits) m ρ))

/-- The reference declares no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

section Algebra

open Cert.KernelIdeal (nD τ sig)
open Cert.AllReduce ValueIdx TcCoe
open scoped BigOperators

variable {F : FTy → Type} [FloatOps F] (m : (ℓ : Loc nD τ sig) → Buf (Elt F) ℓ) (ρ : Dev nD → PrngReg)

/-- A window that is the whole argument reads the argument. -/
theorem xsOf_eq (c : Dev nD) : xsOf m c = m ((c : Thread nD τ).loc Cert.KernelIdeal.main_arg0) := by
  funext j
  refine congrArg (m ((c : Thread nD τ).loc Cert.KernelIdeal.main_arg0)) (funext fun a => Fin.ext ?_)
  match a with
  | ⟨0, _⟩ => exact (Nat.zero_add _).trans (Nat.one_mul _)
  | ⟨1, _⟩ => exact (Nat.zero_add _).trans (Nat.one_mul _)
theorem wsOf_eq (c : Dev nD) : wsOf m c = m ((c : Thread nD τ).loc Cert.KernelIdeal.main_arg1) := by
  funext j
  refine congrArg (m ((c : Thread nD τ).loc Cert.KernelIdeal.main_arg1)) (funext fun a => Fin.ext ?_)
  match a with
  | ⟨0, _⟩ => exact (Nat.zero_add _).trans (Nat.one_mul _)
  | ⟨1, _⟩ => exact (Nat.zero_add _).trans (Nat.one_mul _)

/-- The result array of a device ends at what the body left in its window. -/
theorem final_out (c : Dev nD) : finalA m ρ c (2 : Fin 3) = outF (xsOf m) (wsOf m) c :=
  (dats m ρ 0 c).arrAt_eq_of_after_last (2 : Fin 3) Cert.KernelIdeal.Gen.t0_0 (by decide +kernel) _ (fun j => rfl)

/-- The reference's product at an element. -/
theorem reference_value (X W : Cert.KernelIdeal.S1024x1024.Idx → EReal) (y : Cert.KernelIdeal.S1024x1024.Idx) :
    (extf (F := Ideal) .f32 (truncf (F := Ideal) .bf16
        (Host.dotGeneral (F := Ideal) (φ₁ := .bf16) (φ₂ := .bf16) Cert.ReferenceIdeal.dot_S1024x1024_S1024x1024_S1024x1024_1_0_0_1_n_n none X W)
        Cert.ReferenceIdeal.Gen.bitsLt_bf16_f32) Cert.ReferenceIdeal.Gen.bitsLt_bf16_f32 y : EReal)
      = ∑ K : Fin 1024, X (ix2 (n0 := 1024) (y 0) K) * W (ix2 (n1 := 1024) K (y 1)) := by
  rw [eq_ix2 y]
  refine (Ideal.matmul_plain_apply (M := 1024) (K := 1024) (N := 1024) (φ₁ := .bf16) (φ₂ := .bf16) none X W (fun _ => 0) (y 0) (y 1)).trans ?_
  exact zero_add _

/-- The kernel and the reference end with the same result. -/
theorem algebraic : Cert.algebraic_KernelIdeal_ReferenceIdeal := fun m ρ m' ρ' _ h =>
  ⟨_, (θ_run Cert.KernelIdeal.defs _ _).mono (fun r hr c => ⟨(hr.1 c 2).trans ((final_out m ρ c).trans (funext fun y =>
        (outF_value (xsOf m) (wsOf m) c y).trans ((product _ _ (xsOf m) (wsOf m)
          (fun d => (xsOf_eq m d).trans (h d).1) (fun d => (wsOf_eq m d).trans (h d).2) y).trans
          (reference_value _ _ y).symm))),
      (hr.1 c 0).trans (finalA_x m ρ c), (hr.1 c 1).trans (finalA_w m ρ c)⟩)
    (run_main (F := Ideal) m ρ),
   (θ_run Cert.ReferenceIdeal.defs _ _).mono (fun r hr => hr 0) (Cert.ReferenceIdeal.Value.run m' ρ')⟩

end Algebra

theorem claim : Cert.Claim := ⟨Cert.Kernel.Gen.facts, Cert.KernelIdeal.Gen.facts, Cert.ReferenceIdeal.Gen.facts,
  frame_kernel, frame_kernelIdeal, frame_reference, trivial, algebraic⟩

end Cert.Proof

end
